-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![32768, 2048]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S4x2048x1024 : Shape := ⟨3, ![4, 2048, 1024]⟩
abbrev S2048x1024 : Shape := ⟨2, ![2048, 1024]⟩
abbrev S_ : Shape := ⟨0, ![]⟩
abbrev S3x4 : Shape := ⟨2, ![3, 4]⟩
abbrev S512x1024 : Shape := ⟨2, ![512, 1024]⟩
abbrev S1x512x1024 : Shape := ⟨3, ![1, 512, 1024]⟩
abbrev S1x1 : Shape := ⟨2, ![1, 1]⟩

abbrev nBuf : Space → Nat
  | .hbm => 2
  | .vmem => 4
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .local _ .vmem, ⟨0, _⟩ => ⟨S4x2048x1024, .bf16⟩
  | .local _ .vmem, ⟨1, _⟩ => ⟨S4x2048x1024, .bf16⟩
  | .local _ .vmem, ⟨2, _⟩ => ⟨S2048x1024, .f32⟩
  | .local _ .vmem, ⟨3, _⟩ => ⟨S2048x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  (ofTc nBuf bufTy 1 100 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v30 : BitVec 32 := Scalar.muli v2 c2048_i32
  let c0_i32_20 : BitVec 32 := 0#32
  ![v30.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_19 : BitVec 32 := 2048#32
  let v31 : BitVec 32 := Scalar.muli v2 c2048_i32_19
  let c1024_i32 : BitVec 32 := 1024#32
  ![v31.toNat, 1024]
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_33 : BitVec 32 := 1#32
  let v41 : BitVec 32 := Scalar.muli v24 c1_i32_33
  let v42 : BitVec 32 := Scalar.addi c0_i32_34 v41
  v42.toNat
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_50 : BitVec 32 := 1#32
  let v56 : BitVec 32 := Scalar.muli v13 c1_i32_50
  let v57 : BitVec 32 := Scalar.addi c0_i32_51 v56
  v57.toNat
def k0_dev5 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_66 : BitVec 32 := 1#32
  let v71 : BitVec 32 := Scalar.muli v24 c1_i32_66
  let v72 : BitVec 32 := Scalar.addi c0_i32_67 v71
  v72.toNat
def k0_dev6 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_82 : BitVec 32 := 1#32
  let v86 : BitVec 32 := Scalar.muli v13 c1_i32_82
  let v87 : BitVec 32 := Scalar.addi c0_i32_83 v86
  v87.toNat
def k0_dev7 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_98 : BitVec 32 := 1#32
  let v101 : BitVec 32 := Scalar.muli v24 c1_i32_98
  let v102 : BitVec 32 := Scalar.addi c0_i32_99 v101
  v102.toNat
def k0_dev8 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_115 : BitVec 32 := 1#32
  let v116 : BitVec 32 := Scalar.muli v13 c1_i32_115
  let v117 : BitVec 32 := Scalar.addi c0_i32_116 v116
  v117.toNat
def k0_dev9 (d0 : Dev nD) : Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_130 : BitVec 32 := 1#32
  let v131 : BitVec 32 := Scalar.muli v24 c1_i32_130
  let v132 : BitVec 32 := Scalar.addi c0_i32_131 v131
  v132.toNat
def k0_dev10 (d0 : Dev nD) : Nat :=
  let c0_i32_147 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_146 : BitVec 32 := 1#32
  let v146 : BitVec 32 := Scalar.muli v13 c1_i32_146
  let v147 : BitVec 32 := Scalar.addi c0_i32_147 v146
  v147.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_152 : BitVec 32 := 1#32
  let v156 : BitVec 32 := Scalar.subi v2 c1_i32_152
  let c4_i32_153 : BitVec 32 := 4#32
  let c0_i32_154 : BitVec 32 := 0#32
  let v157 : BitVec 1 := Scalar.cmpi .eq c4_i32_153 c0_i32_154
  let c1_i32_155 : BitVec 32 := 1#32
  let v158 : BitVec 32 := Scalar.select v157 c1_i32_155 c4_i32_153
  let v159 : BitVec 32 := Scalar.remsi v156 v158
  let c0_i32_157 : BitVec 32 := 0#32
  let v161 : BitVec 1 := Scalar.cmpi .slt v159 c0_i32_157
  let c0_i32_158 : BitVec 32 := 0#32
  let v162 : BitVec 1 := Scalar.cmpi .slt v158 c0_i32_158
  let v163 : BitVec 1 := Scalar.xori v161 v162
  let c0_i32_156 : BitVec 32 := 0#32
  let v160 : BitVec 1 := Scalar.cmpi .ne v159 c0_i32_156
  let v164 : BitVec 1 := Scalar.andi v163 v160
  let v165 : BitVec 32 := Scalar.addi v159 v158
  let v166 : BitVec 32 := Scalar.select v164 v165 v159
  let c2048_i32_166 : BitVec 32 := 2048#32
  let v178 : BitVec 32 := Scalar.muli v166 c2048_i32_166
  let c0_i32_168 : BitVec 32 := 0#32
  ![v178.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_159 : BitVec 32 := 1#32
  let v167 : BitVec 32 := Scalar.addi v2 c1_i32_159
  let c4_i32_160 : BitVec 32 := 4#32
  let c0_i32_161 : BitVec 32 := 0#32
  let v168 : BitVec 1 := Scalar.cmpi .eq c4_i32_160 c0_i32_161
  let c1_i32_162 : BitVec 32 := 1#32
  let v169 : BitVec 32 := Scalar.select v168 c1_i32_162 c4_i32_160
  let v170 : BitVec 32 := Scalar.remsi v167 v169
  let c0_i32_164 : BitVec 32 := 0#32
  let v172 : BitVec 1 := Scalar.cmpi .slt v170 c0_i32_164
  let c0_i32_165 : BitVec 32 := 0#32
  let v173 : BitVec 1 := Scalar.cmpi .slt v169 c0_i32_165
  let v174 : BitVec 1 := Scalar.xori v172 v173
  let c0_i32_163 : BitVec 32 := 0#32
  let v171 : BitVec 1 := Scalar.cmpi .ne v170 c0_i32_163
  let v175 : BitVec 1 := Scalar.andi v174 v171
  let v176 : BitVec 32 := Scalar.addi v170 v169
  let v177 : BitVec 32 := Scalar.select v175 v176 v170
  let c2048_i32_167 : BitVec 32 := 2048#32
  let v179 : BitVec 32 := Scalar.muli v177 c2048_i32_167
  let c1024_i32_169 : BitVec 32 := 1024#32
  ![v179.toNat, 1024]
def k0_dev11 (d0 : Dev nD) : Nat :=
  let c0_i32_198 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_197 : BitVec 32 := 1#32
  let v201 : BitVec 32 := Scalar.muli v24 c1_i32_197
  let v202 : BitVec 32 := Scalar.addi c0_i32_198 v201
  v202.toNat
def k0_dev12 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_229 : BitVec 32 := 1#32
  let v228 : BitVec 32 := Scalar.muli v13 c1_i32_229
  let v229 : BitVec 32 := Scalar.addi c0_i32_230 v228
  v229.toNat
def k0_dev13 (d0 : Dev nD) : Nat :=
  let c0_i32_262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_261 : BitVec 32 := 1#32
  let v255 : BitVec 32 := Scalar.muli v24 c1_i32_261
  let v256 : BitVec 32 := Scalar.addi c0_i32_262 v255
  v256.toNat
def k0_dev14 (d0 : Dev nD) : Nat :=
  let c0_i32_294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_293 : BitVec 32 := 1#32
  let v282 : BitVec 32 := Scalar.muli v13 c1_i32_293
  let v283 : BitVec 32 := Scalar.addi c0_i32_294 v282
  v283.toNat
def k0_dev15 (d0 : Dev nD) : Nat :=
  let c0_i32_326 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_325 : BitVec 32 := 1#32
  let v309 : BitVec 32 := Scalar.muli v24 c1_i32_325
  let v310 : BitVec 32 := Scalar.addi c0_i32_326 v309
  v310.toNat
def k0_dev16 (d0 : Dev nD) : Nat :=
  let c0_i32_358 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_357 : BitVec 32 := 1#32
  let v336 : BitVec 32 := Scalar.muli v13 c1_i32_357
  let v337 : BitVec 32 := Scalar.addi c0_i32_358 v336
  v337.toNat
def k0_dev17 (d0 : Dev nD) : Nat :=
  let c0_i32_390 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_389 : BitVec 32 := 1#32
  let v363 : BitVec 32 := Scalar.muli v24 c1_i32_389
  let v364 : BitVec 32 := Scalar.addi c0_i32_390 v363
  v364.toNat
def k0_dev18 (d0 : Dev nD) : Nat :=
  let c0_i32_422 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_421 : BitVec 32 := 1#32
  let v390 : BitVec 32 := Scalar.muli v13 c1_i32_421
  let v391 : BitVec 32 := Scalar.addi c0_i32_422 v390
  v391.toNat
def k0_off5 (d0 : Dev nD) (c0_i32_427 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v400 : BitVec 32 := Scalar.subi v2 c0_i32_427
  let c2_i32_428 : BitVec 32 := 2#32
  let v401 : BitVec 32 := Scalar.subi v400 c2_i32_428
  let c4_i32_429 : BitVec 32 := 4#32
  let c0_i32_430 : BitVec 32 := 0#32
  let v402 : BitVec 1 := Scalar.cmpi .eq c4_i32_429 c0_i32_430
  let c1_i32_431 : BitVec 32 := 1#32
  let v403 : BitVec 32 := Scalar.select v402 c1_i32_431 c4_i32_429
  let v404 : BitVec 32 := Scalar.remsi v401 v403
  let c0_i32_433 : BitVec 32 := 0#32
  let v406 : BitVec 1 := Scalar.cmpi .slt v404 c0_i32_433
  let c0_i32_434 : BitVec 32 := 0#32
  let v407 : BitVec 1 := Scalar.cmpi .slt v403 c0_i32_434
  let v408 : BitVec 1 := Scalar.xori v406 v407
  let c0_i32_432 : BitVec 32 := 0#32
  let v405 : BitVec 1 := Scalar.cmpi .ne v404 c0_i32_432
  let v409 : BitVec 1 := Scalar.andi v408 v405
  let v410 : BitVec 32 := Scalar.addi v404 v403
  let v411 : BitVec 32 := Scalar.select v409 v410 v404
  let c2048_i32_443 : BitVec 32 := 2048#32
  let v424 : BitVec 32 := Scalar.muli v411 c2048_i32_443
  let c0_i32_445 : BitVec 32 := 0#32
  ![v424.toNat, 0]
def k0_off6 (d0 : Dev nD) (c0_i32_435 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v412 : BitVec 32 := Scalar.addi v2 c0_i32_435
  let c2_i32_436 : BitVec 32 := 2#32
  let v413 : BitVec 32 := Scalar.addi v412 c2_i32_436
  let c4_i32_437 : BitVec 32 := 4#32
  let c0_i32_438 : BitVec 32 := 0#32
  let v414 : BitVec 1 := Scalar.cmpi .eq c4_i32_437 c0_i32_438
  let c1_i32_439 : BitVec 32 := 1#32
  let v415 : BitVec 32 := Scalar.select v414 c1_i32_439 c4_i32_437
  let v416 : BitVec 32 := Scalar.remsi v413 v415
  let c0_i32_441 : BitVec 32 := 0#32
  let v418 : BitVec 1 := Scalar.cmpi .slt v416 c0_i32_441
  let c0_i32_442 : BitVec 32 := 0#32
  let v419 : BitVec 1 := Scalar.cmpi .slt v415 c0_i32_442
  let v420 : BitVec 1 := Scalar.xori v418 v419
  let c0_i32_440 : BitVec 32 := 0#32
  let v417 : BitVec 1 := Scalar.cmpi .ne v416 c0_i32_440
  let v421 : BitVec 1 := Scalar.andi v420 v417
  let v422 : BitVec 32 := Scalar.addi v416 v415
  let v423 : BitVec 32 := Scalar.select v421 v422 v416
  let c2048_i32_444 : BitVec 32 := 2048#32
  let v425 : BitVec 32 := Scalar.muli v423 c2048_i32_444
  let c1024_i32_446 : BitVec 32 := 1024#32
  ![v425.toNat, 1024]
def k0_dev19 (d0 : Dev nD) : Nat :=
  let c0_i32_475 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_474 : BitVec 32 := 1#32
  let v447 : BitVec 32 := Scalar.muli v24 c1_i32_474
  let v448 : BitVec 32 := Scalar.addi c0_i32_475 v447
  v448.toNat
def k0_dev20 (d0 : Dev nD) : Nat :=
  let c0_i32_507 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_506 : BitVec 32 := 1#32
  let v474 : BitVec 32 := Scalar.muli v13 c1_i32_506
  let v475 : BitVec 32 := Scalar.addi c0_i32_507 v474
  v475.toNat
def k0_dev21 (d0 : Dev nD) : Nat :=
  let c0_i32_539 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_538 : BitVec 32 := 1#32
  let v501 : BitVec 32 := Scalar.muli v24 c1_i32_538
  let v502 : BitVec 32 := Scalar.addi c0_i32_539 v501
  v502.toNat
def k0_dev22 (d0 : Dev nD) : Nat :=
  let c0_i32_571 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_570 : BitVec 32 := 1#32
  let v528 : BitVec 32 := Scalar.muli v13 c1_i32_570
  let v529 : BitVec 32 := Scalar.addi c0_i32_571 v528
  v529.toNat
def k0_dev23 (d0 : Dev nD) : Nat :=
  let c0_i32_603 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_602 : BitVec 32 := 1#32
  let v555 : BitVec 32 := Scalar.muli v24 c1_i32_602
  let v556 : BitVec 32 := Scalar.addi c0_i32_603 v555
  v556.toNat
def k0_dev24 (d0 : Dev nD) : Nat :=
  let c0_i32_635 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_634 : BitVec 32 := 1#32
  let v582 : BitVec 32 := Scalar.muli v13 c1_i32_634
  let v583 : BitVec 32 := Scalar.addi c0_i32_635 v582
  v583.toNat
def k0_dev25 (d0 : Dev nD) : Nat :=
  let c0_i32_667 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_666 : BitVec 32 := 1#32
  let v609 : BitVec 32 := Scalar.muli v24 c1_i32_666
  let v610 : BitVec 32 := Scalar.addi c0_i32_667 v609
  v610.toNat
def k0_dev26 (d0 : Dev nD) : Nat :=
  let c0_i32_699 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_698 : BitVec 32 := 1#32
  let v636 : BitVec 32 := Scalar.muli v13 c1_i32_698
  let v637 : BitVec 32 := Scalar.addi c0_i32_699 v636
  v637.toNat
def k0_off7 (d0 : Dev nD) (c0_i32_913 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_885 : BitVec 32 := 1#32
  let v812 : BitVec 32 := Scalar.addi v2 c1_i32_885
  let c4_i32_886 : BitVec 32 := 4#32
  let c0_i32_887 : BitVec 32 := 0#32
  let v813 : BitVec 1 := Scalar.cmpi .eq c4_i32_886 c0_i32_887
  let c1_i32_888 : BitVec 32 := 1#32
  let v814 : BitVec 32 := Scalar.select v813 c1_i32_888 c4_i32_886
  let v815 : BitVec 32 := Scalar.remsi v812 v814
  let c0_i32_890 : BitVec 32 := 0#32
  let v817 : BitVec 1 := Scalar.cmpi .slt v815 c0_i32_890
  let c0_i32_891 : BitVec 32 := 0#32
  let v818 : BitVec 1 := Scalar.cmpi .slt v814 c0_i32_891
  let v819 : BitVec 1 := Scalar.xori v817 v818
  let c0_i32_889 : BitVec 32 := 0#32
  let v816 : BitVec 1 := Scalar.cmpi .ne v815 c0_i32_889
  let v820 : BitVec 1 := Scalar.andi v819 v816
  let v821 : BitVec 32 := Scalar.addi v815 v814
  let v822 : BitVec 32 := Scalar.select v820 v821 v815
  let c2048_i32_912 : BitVec 32 := 2048#32
  let v864 : BitVec 32 := Scalar.muli v822 c2048_i32_912
  let v865 : BitVec 32 := Scalar.addi v864 c0_i32_913
  let c0_i32_917 : BitVec 32 := 0#32
  ![v865.toNat, 0]
def k0_off8 (d0 : Dev nD) (c0_i32_915 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_892 : BitVec 32 := 1#32
  let v823 : BitVec 32 := Scalar.subi v2 c1_i32_892
  let c4_i32_893 : BitVec 32 := 4#32
  let c0_i32_894 : BitVec 32 := 0#32
  let v824 : BitVec 1 := Scalar.cmpi .eq c4_i32_893 c0_i32_894
  let c1_i32_895 : BitVec 32 := 1#32
  let v825 : BitVec 32 := Scalar.select v824 c1_i32_895 c4_i32_893
  let v826 : BitVec 32 := Scalar.remsi v823 v825
  let c0_i32_897 : BitVec 32 := 0#32
  let v828 : BitVec 1 := Scalar.cmpi .slt v826 c0_i32_897
  let c0_i32_898 : BitVec 32 := 0#32
  let v829 : BitVec 1 := Scalar.cmpi .slt v825 c0_i32_898
  let v830 : BitVec 1 := Scalar.xori v828 v829
  let c0_i32_896 : BitVec 32 := 0#32
  let v827 : BitVec 1 := Scalar.cmpi .ne v826 c0_i32_896
  let v831 : BitVec 1 := Scalar.andi v830 v827
  let v832 : BitVec 32 := Scalar.addi v826 v825
  let v833 : BitVec 32 := Scalar.select v831 v832 v826
  let c2048_i32_914 : BitVec 32 := 2048#32
  let v866 : BitVec 32 := Scalar.muli v833 c2048_i32_914
  let v867 : BitVec 32 := Scalar.addi v866 c0_i32_915
  let c1024_i32_921 : BitVec 32 := 1024#32
  ![v867.toNat, 1024]
def k0_dev27 (d0 : Dev nD) : Nat :=
  let c0_i32_935 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_934 : BitVec 32 := 1#32
  let v879 : BitVec 32 := Scalar.muli v24 c1_i32_934
  let v880 : BitVec 32 := Scalar.addi c0_i32_935 v879
  v880.toNat
def k0_dev28 (d0 : Dev nD) : Nat :=
  let c0_i32_949 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_948 : BitVec 32 := 1#32
  let v892 : BitVec 32 := Scalar.muli v13 c1_i32_948
  let v893 : BitVec 32 := Scalar.addi c0_i32_949 v892
  v893.toNat
def k0_dev29 (d0 : Dev nD) : Nat :=
  let c0_i32_989 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_988 : BitVec 32 := 1#32
  let v945 : BitVec 32 := Scalar.muli v24 c1_i32_988
  let v946 : BitVec 32 := Scalar.addi c0_i32_989 v945
  v946.toNat
def k0_dev30 (d0 : Dev nD) : Nat :=
  let c0_i32_1003 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1002 : BitVec 32 := 1#32
  let v958 : BitVec 32 := Scalar.muli v13 c1_i32_1002
  let v959 : BitVec 32 := Scalar.addi c0_i32_1003 v958
  v959.toNat
def k0_dev31 (d0 : Dev nD) : Nat :=
  let c0_i32_1043 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1042 : BitVec 32 := 1#32
  let v1011 : BitVec 32 := Scalar.muli v24 c1_i32_1042
  let v1012 : BitVec 32 := Scalar.addi c0_i32_1043 v1011
  v1012.toNat
def k0_dev32 (d0 : Dev nD) : Nat :=
  let c0_i32_1057 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1056 : BitVec 32 := 1#32
  let v1024 : BitVec 32 := Scalar.muli v13 c1_i32_1056
  let v1025 : BitVec 32 := Scalar.addi c0_i32_1057 v1024
  v1025.toNat
def k0_dev33 (d0 : Dev nD) : Nat :=
  let c0_i32_1097 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1096 : BitVec 32 := 1#32
  let v1077 : BitVec 32 := Scalar.muli v24 c1_i32_1096
  let v1078 : BitVec 32 := Scalar.addi c0_i32_1097 v1077
  v1078.toNat
def k0_dev34 (d0 : Dev nD) : Nat :=
  let c0_i32_1111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1110 : BitVec 32 := 1#32
  let v1090 : BitVec 32 := Scalar.muli v13 c1_i32_1110
  let v1091 : BitVec 32 := Scalar.addi c0_i32_1111 v1090
  v1091.toNat
def k0_off9 (d0 : Dev nD) (c1_i32_1115 : BitVec 32) (c0_i32_1131 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1114 : BitVec 32 := 1#32
  let v1098 : BitVec 32 := Scalar.addi v2 c1_i32_1114
  let v1099 : BitVec 32 := Scalar.subi v1098 c1_i32_1115
  let c4_i32_1116 : BitVec 32 := 4#32
  let c0_i32_1117 : BitVec 32 := 0#32
  let v1100 : BitVec 1 := Scalar.cmpi .eq c4_i32_1116 c0_i32_1117
  let c1_i32_1118 : BitVec 32 := 1#32
  let v1101 : BitVec 32 := Scalar.select v1100 c1_i32_1118 c4_i32_1116
  let v1102 : BitVec 32 := Scalar.remsi v1099 v1101
  let c0_i32_1120 : BitVec 32 := 0#32
  let v1104 : BitVec 1 := Scalar.cmpi .slt v1102 c0_i32_1120
  let c0_i32_1121 : BitVec 32 := 0#32
  let v1105 : BitVec 1 := Scalar.cmpi .slt v1101 c0_i32_1121
  let v1106 : BitVec 1 := Scalar.xori v1104 v1105
  let c0_i32_1119 : BitVec 32 := 0#32
  let v1103 : BitVec 1 := Scalar.cmpi .ne v1102 c0_i32_1119
  let v1107 : BitVec 1 := Scalar.andi v1106 v1103
  let v1108 : BitVec 32 := Scalar.addi v1102 v1101
  let v1109 : BitVec 32 := Scalar.select v1107 v1108 v1102
  let c2048_i32_1130 : BitVec 32 := 2048#32
  let v1122 : BitVec 32 := Scalar.muli v1109 c2048_i32_1130
  let v1123 : BitVec 32 := Scalar.addi v1122 c0_i32_1131
  let c0_i32_1138 : BitVec 32 := 0#32
  ![v1123.toNat, 0]
def k0_dev35 (d0 : Dev nD) : Nat :=
  let c0_i32_1147 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1146 : BitVec 32 := 1#32
  let v1132 : BitVec 32 := Scalar.muli v24 c1_i32_1146
  let v1133 : BitVec 32 := Scalar.addi c0_i32_1147 v1132
  v1133.toNat
def k0_off10 (d0 : Dev nD) (c1_i32_1123 : BitVec 32) (c0_i32_1151 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1122 : BitVec 32 := 1#32
  let v1110 : BitVec 32 := Scalar.subi v2 c1_i32_1122
  let v1111 : BitVec 32 := Scalar.addi v1110 c1_i32_1123
  let c4_i32_1124 : BitVec 32 := 4#32
  let c0_i32_1125 : BitVec 32 := 0#32
  let v1112 : BitVec 1 := Scalar.cmpi .eq c4_i32_1124 c0_i32_1125
  let c1_i32_1126 : BitVec 32 := 1#32
  let v1113 : BitVec 32 := Scalar.select v1112 c1_i32_1126 c4_i32_1124
  let v1114 : BitVec 32 := Scalar.remsi v1111 v1113
  let c0_i32_1128 : BitVec 32 := 0#32
  let v1116 : BitVec 1 := Scalar.cmpi .slt v1114 c0_i32_1128
  let c0_i32_1129 : BitVec 32 := 0#32
  let v1117 : BitVec 1 := Scalar.cmpi .slt v1113 c0_i32_1129
  let v1118 : BitVec 1 := Scalar.xori v1116 v1117
  let c0_i32_1127 : BitVec 32 := 0#32
  let v1115 : BitVec 1 := Scalar.cmpi .ne v1114 c0_i32_1127
  let v1119 : BitVec 1 := Scalar.andi v1118 v1115
  let v1120 : BitVec 32 := Scalar.addi v1114 v1113
  let v1121 : BitVec 32 := Scalar.select v1119 v1120 v1114
  let c2048_i32_1150 : BitVec 32 := 2048#32
  let v1140 : BitVec 32 := Scalar.muli v1121 c2048_i32_1150
  let v1141 : BitVec 32 := Scalar.addi v1140 c0_i32_1151
  let c1024_i32_1158 : BitVec 32 := 1024#32
  ![v1141.toNat, 1024]
def k0_dev36 (d0 : Dev nD) : Nat :=
  let c0_i32_1167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1166 : BitVec 32 := 1#32
  let v1150 : BitVec 32 := Scalar.muli v13 c1_i32_1166
  let v1151 : BitVec 32 := Scalar.addi c0_i32_1167 v1150
  v1151.toNat
def k0_dev37 (d0 : Dev nD) : Nat :=
  let c0_i32_1187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1186 : BitVec 32 := 1#32
  let v1168 : BitVec 32 := Scalar.muli v24 c1_i32_1186
  let v1169 : BitVec 32 := Scalar.addi c0_i32_1187 v1168
  v1169.toNat
def k0_dev38 (d0 : Dev nD) : Nat :=
  let c0_i32_1207 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1206 : BitVec 32 := 1#32
  let v1186 : BitVec 32 := Scalar.muli v13 c1_i32_1206
  let v1187 : BitVec 32 := Scalar.addi c0_i32_1207 v1186
  v1187.toNat
def k0_dev39 (d0 : Dev nD) : Nat :=
  let c0_i32_1227 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1226 : BitVec 32 := 1#32
  let v1204 : BitVec 32 := Scalar.muli v24 c1_i32_1226
  let v1205 : BitVec 32 := Scalar.addi c0_i32_1227 v1204
  v1205.toNat
def k0_dev40 (d0 : Dev nD) : Nat :=
  let c0_i32_1247 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1246 : BitVec 32 := 1#32
  let v1222 : BitVec 32 := Scalar.muli v13 c1_i32_1246
  let v1223 : BitVec 32 := Scalar.addi c0_i32_1247 v1222
  v1223.toNat
def k0_dev41 (d0 : Dev nD) : Nat :=
  let c0_i32_1267 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1266 : BitVec 32 := 1#32
  let v1240 : BitVec 32 := Scalar.muli v24 c1_i32_1266
  let v1241 : BitVec 32 := Scalar.addi c0_i32_1267 v1240
  v1241.toNat
def k0_dev42 (d0 : Dev nD) : Nat :=
  let c0_i32_1287 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1286 : BitVec 32 := 1#32
  let v1258 : BitVec 32 := Scalar.muli v13 c1_i32_1286
  let v1259 : BitVec 32 := Scalar.addi c0_i32_1287 v1258
  v1259.toNat
def k0_dev43 (d0 : Dev nD) : Nat :=
  let c0_i32_1323 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1322 : BitVec 32 := 1#32
  let v1300 : BitVec 32 := Scalar.muli v24 c1_i32_1322
  let v1301 : BitVec 32 := Scalar.addi c0_i32_1323 v1300
  v1301.toNat
def k0_dev44 (d0 : Dev nD) : Nat :=
  let c0_i32_1343 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1342 : BitVec 32 := 1#32
  let v1318 : BitVec 32 := Scalar.muli v13 c1_i32_1342
  let v1319 : BitVec 32 := Scalar.addi c0_i32_1343 v1318
  v1319.toNat
def k0_dev45 (d0 : Dev nD) : Nat :=
  let c0_i32_1363 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1362 : BitVec 32 := 1#32
  let v1336 : BitVec 32 := Scalar.muli v24 c1_i32_1362
  let v1337 : BitVec 32 := Scalar.addi c0_i32_1363 v1336
  v1337.toNat
def k0_dev46 (d0 : Dev nD) : Nat :=
  let c0_i32_1383 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1382 : BitVec 32 := 1#32
  let v1354 : BitVec 32 := Scalar.muli v13 c1_i32_1382
  let v1355 : BitVec 32 := Scalar.addi c0_i32_1383 v1354
  v1355.toNat
def k0_dev47 (d0 : Dev nD) : Nat :=
  let c0_i32_1403 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1402 : BitVec 32 := 1#32
  let v1372 : BitVec 32 := Scalar.muli v24 c1_i32_1402
  let v1373 : BitVec 32 := Scalar.addi c0_i32_1403 v1372
  v1373.toNat
def k0_dev48 (d0 : Dev nD) : Nat :=
  let c0_i32_1423 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1422 : BitVec 32 := 1#32
  let v1390 : BitVec 32 := Scalar.muli v13 c1_i32_1422
  let v1391 : BitVec 32 := Scalar.addi c0_i32_1423 v1390
  v1391.toNat
def k0_dev49 (d0 : Dev nD) : Nat :=
  let c0_i32_1443 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1442 : BitVec 32 := 1#32
  let v1408 : BitVec 32 := Scalar.muli v24 c1_i32_1442
  let v1409 : BitVec 32 := Scalar.addi c0_i32_1443 v1408
  v1409.toNat
def k0_dev50 (d0 : Dev nD) : Nat :=
  let c0_i32_1463 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1462 : BitVec 32 := 1#32
  let v1426 : BitVec 32 := Scalar.muli v13 c1_i32_1462
  let v1427 : BitVec 32 := Scalar.addi c0_i32_1463 v1426
  v1427.toNat
-- ==== ReferenceIdeal.lean ====
abbrev S32768x2048 : Shape := ⟨2, ![32768, 2048]⟩
abbrev S4x8192x2048 : Shape := ⟨3, ![4, 8192, 2048]⟩
abbrev S_ : Shape := ⟨0, ![]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S4x8192x2048, .f32⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Proof.Ring.lean ====
/-
The two rings of the all-reduce: devices, semaphore cells, pieces of the buffers and what they hold.

A direction is a `Bool`: `false` sends to the next device, `true` to the one before. A phase is a `Bool`: `false`
is the reduce-scatter over the communication buffers, `true` the all-gather over the result. In either phase each
device sends, in each direction and for each of four bands of rows `u`, three pieces: hop `j` sends piece `j`,
which lands as piece `j + 1` of the device the direction leads to.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's rounds, the rings' rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

abbrev 𝒱₀ : Variants := Variants.none

/-! ## The rings -/

/-- The device direction `d` leads to from `c`, -/
def fwd (d : Bool) (c : Dev nD) : Dev nD := ⟨(c.val + cond d 3 1) % 4, Nat.mod_lt _ (by decide)⟩
/-- and the one it leads to `c` from. -/
def bwd (d : Bool) (c : Dev nD) : Dev nD := ⟨(c.val + cond d 1 3) % 4, Nat.mod_lt _ (by decide)⟩

theorem bwd_fwd (d : Bool) (c : Dev nD) : bwd d (fwd d c) = c := by revert d c; decide
theorem fwd_bwd (d : Bool) (c : Dev nD) : fwd d (bwd d c) = c := by revert d c; decide
theorem fwd_not (d : Bool) (c : Dev nD) : fwd (!d) c = bwd d c := by revert d c; decide

def ring (d : Bool) : Dev nD ≃ Dev nD := ⟨fwd d, bwd d, bwd_fwd d, fwd_bwd d⟩

/-! ## The cells -/

/-- The runtime's barrier semaphore. -/
abbrev barS : Sem sig := (SemArray.scalar (sig.barrier 0 rfl) : Sems sig S_).sem

/-- The semaphore of phase `k`, of the send (`false`) or receive (`true`) side `b`, direction `d`, hop `j`, band `u`. -/
def semOf (k b d : Bool) (j : Fin 3) (u : Fin 4) : DmaSem sig :=
  ⟨4 + 48 * d.toNat + 24 * k.toNat + 12 * b.toNat + 4 * j.val + u.val, by
    have h1 := d.toNat_le; have h2 := k.toNat_le; have h3 := b.toNat_le
    have h4 := j.isLt; have h5 := u.isLt
    show _ < 100
    omega⟩

/-- What a semaphore number stands for. -/
abbrev Key : Type := Bool × Bool × Bool × Fin 3 × Fin 4
def keyOf (q : ℕ) : Key :=
  (decide ((q - 4) / 24 % 2 = 1), decide ((q - 4) / 12 % 2 = 1), decide ((q - 4) / 48 % 2 = 1),
    ⟨(q - 4) / 4 % 3, Nat.mod_lt _ (by decide)⟩, ⟨(q - 4) % 4, Nat.mod_lt _ (by decide)⟩)

theorem keyOf_semOf : ∀ (k b d : Bool) (j : Fin 3) (u : Fin 4), keyOf (semOf k b d j u).val = (k, b, d, j, u) := by
  decide +kernel
theorem four_le_semOf : ∀ (k b d : Bool) (j : Fin 3) (u : Fin 4), 4 ≤ (semOf k b d j u).val := by
  decide +kernel

/-- The semaphore of a key. -/
def semK (x : Key) : DmaSem sig := semOf x.1 x.2.1 x.2.2.1 x.2.2.2.1 x.2.2.2.2
theorem keyOf_semK (x : Key) : keyOf (semK x).val = x := keyOf_semOf ..
theorem semK_injective : Function.Injective semK := fun x y h => by
  rw [← keyOf_semK x, ← keyOf_semK y, h]

/-- The semaphores of the local copies: into the staging buffers and out of the communication buffers. -/
abbrev stS (d : Bool) : DmaSem sig := cond d (1 : Fin 100) (0 : Fin 100)
abbrev outS (d : Bool) : DmaSem sig := cond d (3 : Fin 100) (2 : Fin 100)

abbrev barCell (c : Dev nD) : GSem nD τ sig := ((c : Thread nD τ), .reg barS)
abbrev cellX (c : Dev nD) (k b d : Bool) (j : Fin 3) (u : Fin 4) : GSem nD τ sig := ((c : Thread nD τ), .dma (semOf k b d j u))
abbrev sendC (c : Dev nD) (k d : Bool) (j : Fin 3) (u : Fin 4) : GSem nD τ sig := cellX c k false d j u
abbrev recvC (c : Dev nD) (k d : Bool) (j : Fin 3) (u : Fin 4) : GSem nD τ sig := cellX c k true d j u

/-! ## The buffers and their pieces -/

abbrev argM : Memref sig .tc .hbm S8192x2048 .f32 := Memref.whole main_arg0
abbrev outM : Memref sig .tc .hbm S8192x2048 .bf16 := Memref.whole main_v1
/-- The communication buffers, -/
def commM (d : Bool) : Memref sig .tc .vmem S4x2048x1024 .bf16 :=
  match d with | false => Memref.whole cc0_scratch0 | true => Memref.whole cc0_scratch1
/-- and the buffers the input is staged into. -/
def xstM (d : Bool) : Memref sig .tc .vmem S2048x1024 .f32 :=
  match d with | false => Memref.whole cc0_scratch2 | true => Memref.whole cc0_scratch3

/-- Where band `u` of slot `j` of a communication buffer starts. -/
def rsOff (j : Fin 4) (u : Fin 4) : Fin 3 → ℕ := ![j.val, 512 * u.val, 0]
theorem rsInb (j : Fin 4) (u : Fin 4) : ∀ a, rsOff j u a + S1x512x1024.size a ≤ S4x2048x1024.size a := by
  revert j u; decide +kernel
def rsR (j u : Fin 4) : Rect S4x2048x1024 := Rect.unit (s := S4x2048x1024) (rsOff j u) S1x512x1024.size (rsInb j u)
/-- Band `u` of slot `j` of a communication buffer. -/
def rsM (d : Bool) (j : Fin 4) (u : Fin 4) : Memref sig .tc .vmem S512x1024 .bf16 :=
  ((commM d).slice (rsR j u) (fun _ => rfl)).squeeze S512x1024 squeezes_S1x512x1024_S512x1024

/-- The chunk of the result that is piece `j` of device `c`. -/
def och (d : Bool) (c : Dev nD) (j : ℕ) : ℕ := (c.val + cond d (3 + j) (1 + 3 * j)) % 4
def agOff (d : Bool) (c : Dev nD) (j : ℕ) (u : Fin 4) : Fin 2 → ℕ := ![2048 * och d c j + 512 * u.val, cond d 1024 0]
theorem agInb (d : Bool) (c : Dev nD) (j : ℕ) (u : Fin 4) : ∀ a, agOff d c j u a + S512x1024.size a ≤ S8192x2048.size a := by
  have h : och d c j < 4 := Nat.mod_lt _ (by decide)
  have hu := u.isLt
  intro a; fin_cases a
  · show 2048 * och d c j + 512 * u.val + 512 ≤ 8192; omega
  · cases d
    · show 0 + 1024 ≤ 2048; omega
    · show 1024 + 1024 ≤ 2048; omega
def agR (d : Bool) (c : Dev nD) (j : ℕ) (u : Fin 4) : Rect S8192x2048 :=
  Rect.unit (s := S8192x2048) (agOff d c j u) S512x1024.size (agInb d c j u)
/-- Band `u` of a device's piece `j` of the result: half the columns of a chunk. -/
def agM (d : Bool) (c : Dev nD) (j : ℕ) (u : Fin 4) : Memref sig .tc .hbm S512x1024 .bf16 :=
  outM.slice (agR d c j u) (fun _ => rfl)

theorem och_fwd (d : Bool) (c : Dev nD) (j : ℕ) : och d (fwd d c) (j + 1) = och d c j := by
  unfold och fwd; cases d <;> simp only [cond_true, cond_false] <;> omega
/-- Piece `j + 1` of the next device is the same part of the result as piece `j` here. -/
theorem agM_fwd (d : Bool) (c : Dev nD) (j : ℕ) (u : Fin 4) : agM d (fwd d c) (j + 1) u = agM d c j u := by
  have h : agOff d (fwd d c) (j + 1) u = agOff d c j u := by unfold agOff; rw [och_fwd]
  unfold agM agR; congr 1; simp only [h]

/-- The memory space of a phase's pieces. -/
abbrev spc (k : Bool) : Space := cond k .hbm .vmem
/-- Piece `j` of device `c`, of a phase, direction and band. -/
def pieceM (k d : Bool) (c : Dev nD) (j u : Fin 4) : Memref sig .tc (spc k) S512x1024 .bf16 :=
  match k with | false => rsM d j u | true => agM d c j.val u

/-- The units a piece's copy adds to a semaphore. -/
abbrev NB : ℕ := (rsM false 0 0).view.dmaCredit
theorem credit_rs (d : Bool) (j u : Fin 4) : (rsM d j u).view.dmaCredit = NB := by cases d <;> rfl
theorem credit_ag (d : Bool) (c : Dev nD) (j : ℕ) (u : Fin 4) : (agM d c j u).view.dmaCredit = NB := rfl
theorem NB_pos : 0 < NB := View.dmaCredit_pos _ (by decide)

end Cert.AllReduce
end
-- ==== Proof.Sched.lean ====
/-
What the pieces hold, and the schedule of the rings: which device pays which semaphore cell, how much, and what
the payment hands over.
-/
module

public import proofs.«01_k».proof.Proof.Ring

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Contents -/

/-- A band as the kernel loads and stores it, with a unit axis in front, and without. -/
def up {e : EltTy} (x : S512x1024.Idx → Elt F e) : S1x512x1024.Idx → Elt F e := shapeCast S1x512x1024 x shapeCasts_S512x1024_S1x512x1024
def dn {e : EltTy} (x : S1x512x1024.Idx → Elt F e) : S512x1024.Idx → Elt F e := shapeCast S512x1024 x shapeCasts_S1x512x1024_S512x1024

/-- The chunk of its own input that device `c` stages at step `s`. -/
def xChunk (d : Bool) (c : Dev nD) (s : ℕ) : ℕ := (c.val + cond d s (3 * s)) % 4
def xOff (d : Bool) (c : Dev nD) (s : ℕ) : Fin 2 → ℕ := ![2048 * xChunk d c s, cond d 1024 0]
theorem xInb (d : Bool) (c : Dev nD) (s : ℕ) : ∀ a, xOff d c s a + S2048x1024.size a ≤ S8192x2048.size a := by
  have h : xChunk d c s < 4 := Nat.mod_lt _ (by decide)
  intro a; fin_cases a
  · show 2048 * xChunk d c s + 2048 ≤ 8192; omega
  · cases d
    · show 0 + 1024 ≤ 2048; omega
    · show 1024 + 1024 ≤ 2048; omega
def xM (d : Bool) (c : Dev nD) (s : ℕ) : Memref sig .tc .hbm S2048x1024 .f32 :=
  argM.slice (Rect.unit (s := S8192x2048) (xOff d c s) S2048x1024.size (xInb d c s)) (fun _ => rfl)

/-- Device `c`'s input, -/
def xArg (c : Dev nD) : Buf (Elt F) ((c : Thread nD τ).loc main_arg0) := m ((c : Thread nD τ).loc main_arg0)
/-- the half chunk of it staged at step `s`, -/
def xStage (d : Bool) (c : Dev nD) (s : ℕ) : S2048x1024.Idx → Elt F .f32 := (xM d c s).view.read (Elt F) (xArg m c)
/-- band `u` of a staging buffer, -/
def bandOff (u : Fin 4) : Fin 2 → ℕ := ![512 * u.val, 0]
theorem bandInb (u : Fin 4) : ∀ a, bandOff u a + S512x1024.size a ≤ S2048x1024.size a := by revert u; decide +kernel
def bandR (u : Fin 4) : Rect S2048x1024 := Rect.unit (s := S2048x1024) (bandOff u) S512x1024.size (bandInb u)
/-- and its contents. -/
def xBand (d : Bool) (c : Dev nD) (s : ℕ) (u : Fin 4) : S512x1024.Idx → Elt F .f32 := fun i => xStage m d c s ((bandR u).emb i)

/-- A band of the input, rounded. -/
def firstV (x : Vec F S512x1024 .f32) : FVec F S512x1024 .bf16 := truncf .bf16 x bitsLt_bf16_f32
/-- A partial sum and a band of the input, added and rounded. -/
def accV (v : Vec F S1x512x1024 .bf16) (x : Vec F S512x1024 .f32) : FVec F S512x1024 .bf16 :=
  truncf .bf16 (addf (extf .f32 (shapeCast S512x1024 v shapeCasts_S1x512x1024_S512x1024 : FVec F S512x1024 .bf16) bitsLt_bf16_f32) x) bitsLt_bf16_f32
/-- The function of the sum. -/
def finV (v : Vec F S1x512x1024 .bf16) : FVec F S512x1024 .bf16 :=
  let s : FVec F S512x1024 .f32 := extf .f32 (shapeCast S512x1024 v shapeCasts_S1x512x1024_S512x1024 : FVec F S512x1024 .bf16) bitsLt_bf16_f32
  let r : FVec F S512x1024 .f32 := maximumf s (broadcast S512x1024 (Scalar.ofBits .f32 0x00000000#32 : F .f32))
  truncf .bf16 (addf (mulf (mulf (tanh s) s) s) (mulf (mulf r r) r)) bitsLt_bf16_f32

/-- The partial sum device `c` holds as piece `j`: its own band added to what it received. -/
def rsVal (d : Bool) (u : Fin 4) : ℕ → Dev nD → S512x1024.Idx → Elt F .bf16
  | 0, c => firstV (xBand m d c 0 u)
  | j + 1, c => accV (up (rsVal d u j (bwd d c))) (xBand m d c (j + 1) u)
/-- The result's band device `c` computes, -/
def finVal (d : Bool) (u : Fin 4) (c : Dev nD) : S512x1024.Idx → Elt F .bf16 := finV (up (rsVal m d u 3 c))
/-- and the bands it has as piece `j`. -/
def agVal (d : Bool) (u : Fin 4) : ℕ → Dev nD → S512x1024.Idx → Elt F .bf16
  | 0, c => finVal m d u c
  | j + 1, c => agVal d u j (bwd d c)
/-- What device `c` sends as piece `j`. -/
def sentVal (k d : Bool) (u : Fin 4) (j : ℕ) (c : Dev nD) : S512x1024.Idx → Elt F .bf16 :=
  match k with | false => rsVal m d u j c | true => agVal m d u j c

/-! ## The schedule -/

/-- A piece, at given contents; -/
def pc (k d : Bool) (c : Dev nD) (j u : Fin 4) (X : S512x1024.Idx → Elt F .bf16) : sProp 𝕄 :=
  owns (c : Thread nD τ) (pieceM k d c j u) fullShare X
/-- at some contents. -/
def pcAny (k d : Bool) (c : Dev nD) (j u : Fin 4) : sProp 𝕄 := iprop(∃ X, pc k d c j u X)

/-- What a device hands to the one that sends to it in direction `d`: the pieces that will be written. -/
def landing (d : Bool) (n : Dev nD) : sProp 𝕄 :=
  bigSep Finset.univ fun x : Bool × Fin 4 × Fin 3 => pcAny (F := F) x.1 d n x.2.2.succ x.2.1

/-- What paying the cell of key `x` of device `c` hands over: on the receive side the piece landed, on the send side
    the piece sent. -/
def xPay (x : Key) (c : Dev nD) : sProp 𝕄 :=
  if x.2.1 then pc x.1 x.2.2.1 c x.2.2.2.1.succ x.2.2.2.2 (sentVal m x.1 x.2.2.1 x.2.2.2.2 x.2.2.2.1.val (bwd x.2.2.1 c))
  else pc x.1 x.2.2.1 c x.2.2.2.1.castSucc x.2.2.2.2 (sentVal m x.1 x.2.2.1 x.2.2.2.2 x.2.2.2.1.val c)

instance pc_storable (k d : Bool) (c : Dev nD) (j u : Fin 4) (X : S512x1024.Idx → Elt F .bf16) :
    BI.Storable (upEmb : UEmb _ 𝕄) (pc k d c j u X) := by unfold pc; infer_instance
instance pcAny_storable (k d : Bool) (c : Dev nD) (j u : Fin 4) :
    BI.Storable (upEmb : UEmb _ 𝕄) (pcAny (F := F) k d c j u) := by unfold pcAny; infer_instance
instance landing_storable (d : Bool) (n : Dev nD) : BI.Storable (upEmb : UEmb _ 𝕄) (landing (F := F) d n) := by
  unfold landing; infer_instance
instance xPay_storable (x : Key) (c : Dev nD) : BI.Storable (upEmb : UEmb _ 𝕄) (xPay m x c) := by
  unfold xPay; split <;> infer_instance

/-- Every cell has one round. A barrier cell's has two duties of one unit, one for each neighbour; duty `d` is paid by
    the device direction `d` leads to. A transfer's cell has one duty of the piece's credit. -/
def Rd : Rounds.Schedule (GSem nD τ sig) Bool 𝕄 where
  duties g r :=
    if r = 0 ∧ g.1.2 = .tc then
      match g.2 with
      | .reg s => if s = barS then Finset.univ else ∅
      | .dma q => if 4 ≤ q.val then {false} else ∅
    else ∅
  unitless _ := False
  amount g _ _ := match g.2 with | .reg _ => 1 | .dma _ => NB
  payload g _ d := match g.2 with | .reg _ => landing d (fwd d g.1.1) | .dma q => xPay m (keyOf q.val) g.1.1
  amount_pos g _ _ _ := by
    show 0 < (match g.2 with | .reg _ => 1 | .dma _ => NB)
    split
    · exact Nat.one_pos
    · exact NB_pos

instance Rd_payload_storable (g : GSem nD τ sig) (r : ℕ) (d : Bool) :
    BI.Storable (upEmb : UEmb _ 𝕄) ((Rd m).payload g r d) := by
  show BI.Storable upEmb (match g.2 with | .reg _ => landing d (fwd d g.1.1) | .dma q => xPay m (keyOf q.val) g.1.1)
  split <;> infer_instance

theorem duties_bar (c : Dev nD) : (Rd m).duties (barCell c) 0 = Finset.univ := by
  dsimp only [Rd]; rw [if_pos ⟨rfl, rfl⟩]; exact if_pos rfl
theorem duties_x (c : Dev nD) (k b d : Bool) (j : Fin 3) (u : Fin 4) : (Rd m).duties (cellX c k b d j u) 0 = {false} := by
  dsimp only [Rd]; rw [if_pos ⟨rfl, rfl⟩]; exact if_pos (four_le_semOf k b d j u)
theorem duties_later (g : GSem nD τ sig) : ∀ r, 1 ≤ r → (Rd m).duties g r = ∅ := fun r hr => by
  dsimp only [Rd]; rw [if_neg fun h => by omega]
theorem amount_bar (c : Dev nD) (d : Bool) : (Rd m).amount (barCell c) 0 d = 1 := rfl
theorem amount_x (c : Dev nD) (k b d : Bool) (j : Fin 3) (u : Fin 4) (d' : Bool) : (Rd m).amount (cellX c k b d j u) 0 d' = NB := rfl
theorem payload_bar (c : Dev nD) (d : Bool) : (Rd m).payload (barCell c) 0 d = landing d (fwd d c) := rfl
theorem payload_recv (c : Dev nD) (k d : Bool) (j : Fin 3) (u : Fin 4) (d' : Bool) :
    (Rd m).payload (recvC c k d j u) 0 d' = pc k d c j.succ u (sentVal m k d u j.val (bwd d c)) := by
  show xPay m (keyOf (semOf k true d j u).val) c = _
  rw [keyOf_semOf]; exact if_pos rfl
theorem payload_send (c : Dev nD) (k d : Bool) (j : Fin 3) (u : Fin 4) (d' : Bool) :
    (Rd m).payload (sendC c k d j u) 0 d' = pc k d c j.castSucc u (sentVal m k d u j.val c) := by
  show xPay m (keyOf (semOf k false d j u).val) c = _
  rw [keyOf_semOf]; exact if_neg Bool.false_ne_true

theorem expect_bar (c : Dev nD) : (Rd m).expect (barCell c) 0 = 2 := by
  unfold Schedule.expect Schedule.amountOf
  rw [duties_bar, Finset.sum_congr rfl fun d _ => amount_bar m c d, Finset.sum_const, Finset.card_univ, Fintype.card_bool, smul_eq_mul]
theorem expect_x (c : Dev nD) (k b d : Bool) (j : Fin 3) (u : Fin 4) : (Rd m).expect (cellX c k b d j u) 0 = NB := by
  unfold Schedule.expect Schedule.amountOf; rw [duties_x, Finset.sum_singleton, amount_x]

/-- The rest of a round no duty of which is taken. -/
theorem rest_bar (c : Dev nD) : bigSep ((Rd m).duties (barCell c) 0 \ ∅) (fun d => (Rd m).payload (barCell c) 0 d)
    = (bigSep Finset.univ fun d => landing (F := F) d (fwd d c) : sProp 𝕄) := by
  rw [Finset.sdiff_empty, duties_bar]; rfl
theorem rest_x (c : Dev nD) (k b d : Bool) (j : Fin 3) (u : Fin 4) :
    bigSep ((Rd m).duties (cellX c k b d j u) 0 \ ∅) (fun d' => (Rd m).payload (cellX c k b d j u) 0 d')
    = (Rd m).payload (cellX c k b d j u) 0 false := by
  rw [Finset.sdiff_empty, duties_x, bigSep_singleton]

/-! ## The records: every cell's invariant, its round reached -/

def osem : Option Key → SemLoc sig := fun | none => .reg barS | some x => .dma (semK x)
abbrev kcell (x : Dev nD × Option Key) : GSem nD τ sig := ((x.1 : Thread nD τ), osem x.2)

def records : sProp 𝕄 :=
  iprop(∃ K : Dev nD × Option Key → ℕ,
    bigSep Finset.univ fun x : Dev nD × Option Key => iprop(cellInv ER (Rd m) (K x) (kcell x) ∗ reached ER (kcell x) 0))

instance records_persistent : BI.Persistent (records (F := F) m) := by
  unfold records
  haveI (K : Dev nD × Option Key → ℕ) (x : Dev nD × Option Key) :
      BI.Persistent (iprop(cellInv ER (Rd m) (K x) (kcell x) ∗ reached ER (kcell x) 0) : sProp 𝕄) := by infer_instance
  infer_instance

theorem records_get (x : Dev nD × Option Key) :
    records (F := F) m ⊢ iprop(∃ κ, cellInv ER (Rd m) κ (kcell x) ∗ reached ER (kcell x) 0) := by
  unfold records
  iintro ⟨%K, H⟩
  iexists K x
  haveI : DecidableEq (Dev nD × Option Key) := Classical.decEq _
  ihave Hx := (show bigSep Finset.univ (fun x : Dev nD × Option Key => iprop(cellInv ER (Rd m) (K x) (kcell x) ∗ reached ER (kcell x) 0))
      ⊢ iprop(cellInv ER (Rd m) (K x) (kcell x) ∗ reached ER (kcell x) 0) from BI.bigSep_elim (Finset.mem_univ x)) $$ H
  iexact Hx

theorem records_x (c : Dev nD) (k b d : Bool) (j : Fin 3) (u : Fin 4) :
    records (F := F) m ⊢ iprop(∃ κ, cellInv ER (Rd m) κ (cellX c k b d j u) ∗ reached ER (cellX c k b d j u) 0) :=
  records_get m (c, some (k, b, d, j, u))
theorem records_bar (c : Dev nD) :
    records (F := F) m ⊢ iprop(∃ κ, cellInv ER (Rd m) κ (barCell c) ∗ reached ER (barCell c) 0) :=
  records_get m (c, none)

end Cert.AllReduce
end
-- ==== Proof.State.lean ====
/-
The state of a device between two steps of the kernel: the order of the steps, what is still owed, the levels that
let a device wait while it owes, and what each direction and band holds after so many of its steps.
-/
module

public import proofs.«01_k».proof.Proof.Sched

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The steps in order

A chain — a direction and a band — goes through sixteen steps: `0` store and send the first piece; `1`, `2` receive, add,
send on; `3` receive and add the last; `4` apply the function; `5` start the copy into the result; `6` wait for it
and send the finished band; `7`, `8` receive a band and send it on; `9` receive the last; `10`–`15` wait for the
six sends. -/

abbrev Chain : Type := Bool × Fin 4

/-- A step taken by all chains in turn, band by band. -/
def sweep (ph : ℕ) : List (ℕ × Chain) := [0, 1, 2, 3].flatMap fun u => [(ph, false, u), (ph, true, u)]
/-- The steps of all chains, in the kernel's order. -/
def prog : List (ℕ × Chain) :=
  sweep 0 ++ sweep 1 ++ sweep 2 ++ sweep 3
    ++ [0, 1, 2, 3].flatMap (fun u => [(4, false, u), (4, true, u), (5, false, u), (5, true, u), (6, false, u), (6, true, u)])
    ++ sweep 7 ++ sweep 8 ++ sweep 9
    ++ sweep 10 ++ sweep 11 ++ sweep 12 ++ sweep 13 ++ sweep 14 ++ sweep 15

/-- How many of chain `x`'s steps are among the first `p`. -/
def phaseAt (p : ℕ) (x : Chain) : ℕ := ((prog.take p).filter fun st => st.2 = x).length

theorem phase_ok : ∀ p : Fin prog.length, phaseAt p.val (prog.get p).2 = (prog.get p).1 := by decide +kernel
theorem phase_end : ∀ x, phaseAt 128 x = 16 := by decide +kernel
theorem phase_zero (x : Chain) : phaseAt 0 x = 0 := rfl

theorem phase_at {p ph : ℕ} {x : Chain} (h : prog[p]? = some (ph, x)) : phaseAt p x = ph := by
  obtain ⟨hp, he⟩ := List.getElem?_eq_some_iff.mp h
  have := phase_ok ⟨p, hp⟩
  rw [show prog.get ⟨p, hp⟩ = (ph, x) from he] at this
  exact this

theorem phase_step {p : ℕ} {st : ℕ × Chain} (h : prog[p]? = some st) (x : Chain) :
    phaseAt (p + 1) x = phaseAt p x + (if st.2 = x then 1 else 0) := by
  unfold phaseAt
  rw [List.take_add_one, h, List.filter_append, List.length_append]
  by_cases hx : st.2 = x <;> simp [hx]

/-- The transfer a step starts: its phase and hop. -/
def hop : ℕ → Option (Bool × Fin 3)
  | 0 => some (false, 0) | 1 => some (false, 1) | 2 => some (false, 2)
  | 6 => some (true, 0) | 7 => some (true, 1) | 8 => some (true, 2)
  | _ => none

/-! ## What a device owes -/

/-- The units a step pays a neighbour's receive cell. -/
def tally (c : Dev nD) (st : ℕ × Chain) : CellTallies nD τ sig Unit :=
  match hop st.1 with
  | some kj => tallyAt (recvC (fwd st.2.1 c) kj.1 st.2.1 kj.2 st.2.2) () NB
  | none => 0
/-- What device `c` owes from the `p`-th step on. -/
def dues (c : Dev nD) (p : ℕ) : CellTallies nD τ sig Unit := ((prog.drop p).map (tally c)).sum

theorem dues_step (c : Dev nD) {p : ℕ} {st : ℕ × Chain} (h : prog[p]? = some st) : dues c p = dues c (p + 1) + tally c st := by
  obtain ⟨hp, he⟩ := List.getElem?_eq_some_iff.mp h
  unfold dues
  rw [List.drop_eq_getElem_cons hp, List.map_cons, List.sum_cons, he, add_comm]
theorem dues_none (c : Dev nD) {p : ℕ} {st : ℕ × Chain} (h : prog[p]? = some st) (hn : hop st.1 = none) : dues c (p + 1) = dues c p := by
  rw [dues_step c h]; unfold tally; rw [hn, add_zero]

/-- Whatever is owed is the payment of a transfer not yet started. -/
theorem sum_pos (c : Dev nD) {g : GSem nD τ sig} {i : Unit} : ∀ l : List (ℕ × Chain), 0 < (l.map (tally c)).sum g i →
    ∃ st ∈ l, ∃ kj, hop st.1 = some kj ∧ g = recvC (fwd st.2.1 c) kj.1 st.2.1 kj.2 st.2.2
  | [], h => absurd h (Nat.lt_irrefl 0)
  | st :: l, h => by
    rw [List.map_cons, List.sum_cons, Pi.add_apply, Finsupp.add_apply] at h
    by_cases h1 : 0 < tally c st g i
    · refine ⟨st, List.mem_cons_self, ?_⟩
      unfold tally at h1
      cases hk : hop st.1 with
      | none => rw [hk] at h1; exact absurd h1 (Nat.lt_irrefl 0)
      | some kj =>
        rw [hk] at h1
        simp only [tallyAt_apply] at h1
        refine ⟨kj, rfl, ?_⟩
        by_contra hg
        rw [if_neg (fun h => hg h.1)] at h1
        exact absurd h1 (Nat.lt_irrefl 0)
    · rw [Nat.eq_zero_of_not_pos h1, zero_add] at h
      obtain ⟨st', hm, hr⟩ := sum_pos c l h
      exact ⟨st', List.mem_cons_of_mem _ hm, hr⟩

/-! ## The levels -/

def L (g : GSem nD τ sig) : Finset Unit := if g.1.2 = .tc then {()} else ∅
/-- The level of a key: a receive cell's is its place in the order of the transfers. -/
def lvKey (x : Key) : ℕ := if x.2.1 then 1 + x.2.2.2.1.val + 3 * x.1.toNat else 0
def lv (g : GSem nD τ sig) (_ : Unit) : ℕ :=
  match g.2 with | .reg _ => 0 | .dma q => if q.val < 4 then 0 else lvKey (keyOf q.val)

theorem L_of_ne (g : GSem nD τ sig) (h : g.1.2 ≠ .tc) : L g = ∅ := if_neg h
theorem L_tc (c : Dev nD) (sm : SemLoc sig) : L ((c : Thread nD τ), sm) = {()} := if_pos rfl
theorem lv_x (c : Dev nD) (k b d : Bool) (j : Fin 3) (u : Fin 4) : lv (cellX c k b d j u) () = lvKey (k, b, d, j, u) := by
  show (if (semOf k b d j u).val < 4 then 0 else lvKey (keyOf (semOf k b d j u).val)) = _
  rw [if_neg (Nat.not_lt.mpr (four_le_semOf k b d j u)), keyOf_semOf]

/-- The level of the `p`-th step's transfers, and of all after it, is above `ℓ`. -/
def above (ℓ p : ℕ) : Bool := (prog.drop p).all fun st => match hop st.1 with
  | some kj => decide (ℓ < lvKey (kj.1, true, st.2.1, kj.2, st.2.2))
  | none => true

theorem mayWait_dues (c : Dev nD) (sm : SemLoc sig) (p ℓ : ℕ) (hℓ : lv ((c : Thread nD τ), sm) () ≤ ℓ) (ha : above ℓ p = true) :
    (levAts L lv : sProp 𝕄) ⊢ MayWait (c : Thread nD τ) sm () (dues c p) := by
  have hget : ∀ (g : GSem nD τ sig) (i : Unit), 0 < dues c p g i → ∃ (c' : Dev nD) (k d : Bool) (j : Fin 3) (u : Fin 4),
      g = recvC c' k d j u ∧ ℓ < lvKey (k, true, d, j, u) := fun g i hg => by
    obtain ⟨st, hm, kj, hk, rfl⟩ := sum_pos c _ hg
    have := List.all_eq_true.mp ha st hm
    rw [hk] at this
    exact ⟨_, _, _, _, _, rfl, of_decide_eq_true this⟩
  exact MayOwe.of_cut (L := L) (lev := lv) ℓ
    (fun p hp => by rw [Finset.mem_singleton.mp hp, L_tc]; exact Finset.mem_singleton_self _)
    (fun g i hg => by obtain ⟨c', k, d, j, u, rfl, -⟩ := hget g i hg; rw [L_tc]; exact Finset.mem_singleton_self _)
    (fun p hp => by rw [Finset.mem_singleton.mp hp]; exact hℓ)
    (fun g i hg => by obtain ⟨c', k, d, j, u, rfl, h⟩ := hget g i hg; rw [lv_x]; exact h)

/-- The level a step's first wait is at. -/
def waitLv : ℕ → ℕ | 1 => 1 | 2 => 2 | 3 => 3 | 7 => 4 | 8 => 5 | 9 => 6 | _ => 0
theorem above_ok : ∀ p : Fin prog.length, above (waitLv (prog.get p).1) p.val = true := by decide +kernel
theorem above_at {p ph : ℕ} {x : Chain} (h : prog[p]? = some (ph, x)) : above (waitLv ph) p = true := by
  obtain ⟨hp, he⟩ := List.getElem?_eq_some_iff.mp h
  have := above_ok ⟨p, hp⟩
  rw [show prog.get ⟨p, hp⟩ = (ph, x) from he] at this
  exact this
theorem above_zero : ∀ p : Fin 129, above 0 p.val = true := by decide +kernel
theorem dues_end : ∀ p : ℕ, (prog.drop p).all (fun st => (hop st.1).isNone) = true → ∀ c, dues c p = 0 := by
  intro p h c
  unfold dues
  have h' : ∀ st ∈ prog.drop p, tally c st = 0 := fun st hm => by
    have := List.all_eq_true.mp h st hm
    unfold tally
    rw [Option.isNone_iff_eq_none.mp this]
  rw [List.map_congr_left h']
  simp

/-! ## A ring's resources -/

section Ring
variable (k d : Bool) (u : Fin 4) (c : Dev nD)

/-- What sending hop `j` needs, -/
def needS (j : Fin 3) : sProp 𝕄 :=
  iprop(dutyTok ER (sendC c k d j u) 0 false ∗ dutyTok ER (recvC (fwd d c) k d j u) 0 false
    ∗ pcAny (F := F) k d (fwd d c) j.succ u ∗ atPos ER (sendC c k d j u) 0 ∅ 0)
/-- what receiving it needs, -/
def needR (j : Fin 3) : sProp 𝕄 := iprop(atPos ER (recvC c k d j u) 0 ∅ 0 ∗ cred (tallyAt (recvC c k d j u) () NB))
/-- what waiting for the send needs, -/
def doneS (j : Fin 3) : sProp 𝕄 := iprop(atPos ER (sendC c k d j u) 0 ∅ 0 ∗ cred (tallyAt (sendC c k d j u) () NB))
/-- what is left of the receive cell, -/
def doneR (j : Fin 3) : sProp 𝕄 := semVal (recvC c k d j u) 0
/-- and of the send cell, with the piece sent. -/
def finS (j : Fin 3) : sProp 𝕄 := iprop(semVal (sendC c k d j u) 0 ∗ pc k d c j.castSucc u (sentVal m k d u j.val c))

/-- After `a` sends, `b` receives and `w` waits for sends. -/
def rgS (a w : ℕ) (j : Fin 3) : sProp 𝕄 := if j.val < a then (if j.val < w then finS m k d u c j else doneS k d u c j) else needS k d u c j
def rgR (b : ℕ) (j : Fin 3) : sProp 𝕄 := if j.val < b then doneR k d u c j else needR k d u c j
def rg (a b w : ℕ) : sProp 𝕄 := iprop(bigSep Finset.univ (rgS m k d u c a w) ∗ bigSep Finset.univ (rgR (F := F) k d u c b))

end Ring

/-! ## A chain's resources -/

section ChainRes
variable (c : Dev nD) (d : Bool) (u : Fin 4)

/-- The pieces in hand after `ph` steps. -/
def held : ℕ → sProp 𝕄
  | 0 => iprop(pcAny (F := F) false d c 0 u ∗ pcAny (F := F) true d c 0 u)
  | 1 | 2 | 3 => pcAny (F := F) true d c 0 u
  | 4 => iprop(pc false d c 3 u (rsVal m d u 3 c) ∗ pcAny (F := F) true d c 0 u)
  | 5 => iprop(pc false d c 3 u (finVal m d u c) ∗ pcAny (F := F) true d c 0 u)
  | 6 => Transfers.Flight EC (c : Thread nD τ) (.dma (outS d)) () NB iprop(pc true d c 0 u (finVal m d u c) ∗ pc false d c 3 u (finVal m d u c))
  | 7 | 8 | 9 => pc false d c 3 u (finVal m d u c)
  | _ => iprop(pc false d c 3 u (finVal m d u c) ∗ pc true d c 3 u (agVal m d u 3 c))

/-- Everything chain `(d, u)` has after `ph` steps. -/
def chain (ph : ℕ) : sProp 𝕄 :=
  iprop(rg m false d u c ph (ph - 1) (ph - 10) ∗ rg m true d u c (ph - 6) (ph - 7) (ph - 13) ∗ held m c d u ph)

end ChainRes

/-! ## The state -/

section State
variable (c : Dev nD)

/-- The half of the input's share direction `d`'s copies read through. -/
def half (d : Bool) : PosShare TreeShare := match d with | false => fullShare.left | true => fullShare.right
def argPts (q : PosShare TreeShare) : sProp 𝕄 := ((c : Thread nD τ).loc main_arg0) ↦{q} xArg m c
/-- A staging buffer after `s` stagings. -/
def staged (d : Bool) : ℕ → sProp 𝕄
  | 0 => iprop(∃ Y, owns (c : Thread nD τ) (xstM d) fullShare Y)
  | s + 1 => owns (c : Thread nD τ) (xstM d) fullShare (xStage m d c s)
/-- A band of direction `d` is on its way into the result. -/
def busy (d : Bool) (p : ℕ) : Bool := decide (∃ u, phaseAt p (d, u) = 6)
def outFree (d : Bool) (p : ℕ) : sProp 𝕄 := if busy d p then iprop(emp) else semVal ((c : Thread nD τ), .dma (outS d)) 0
/-- What a direction has beside its chains. -/
def side (s p : ℕ) (d : Bool) : sProp 𝕄 :=
  iprop(argPts m c (half d) ∗ semVal ((c : Thread nD τ), .dma (stS d)) 0 ∗ outFree c d p ∗ staged m c d s)

/-- The state of device `c` after `s` stagings and `p` steps. -/
def St (s p : ℕ) : sProp 𝕄 :=
  iprop(records m ∗ levAts L lv ∗ (∃ W, owes (c : Thread nD τ) (dues c p) W)
    ∗ bigSep Finset.univ (side m c s p) ∗ bigSep Finset.univ fun x : Chain => chain m c x.1 x.2 (phaseAt p x))

theorem busy_ok : ∀ p : Fin prog.length, ∀ d, busy d (p.val + 1) =
    (if (prog.get p).1 = 5 ∧ (prog.get p).2.1 = d then true else if (prog.get p).1 = 6 ∧ (prog.get p).2.1 = d then false else busy d p.val) := by
  decide +kernel
theorem busy_pre : ∀ p : Fin prog.length, ∀ d, ((prog.get p).1 = 5 ∧ (prog.get p).2.1 = d → busy d p.val = false)
    ∧ ((prog.get p).1 = 6 ∧ (prog.get p).2.1 = d → busy d p.val = true) := by
  decide +kernel

end State

end Cert.AllReduce
end
-- ==== Proof.Ops.lean ====
/-
The kernel's operations, one rule each: a transfer to the neighbour, the waits for it at both ends, and the loads and
stores of one band of a communication or staging buffer.
-/
module

public import proofs.«01_k».proof.Proof.State
public import Idealize.ShloMosaic.Lib.Pipeline.Value

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A program's weakest precondition on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The transfers -/

section Transfer
variable (k d : Bool) (u : Fin 4) (c : Dev nD) (j : Fin 3)

theorem fwd_routes (c c' : Dev nD) : τ.routes (c : Thread nD τ) (c' : Thread nD τ) = true := by routes

theorem credit_piece (c : Dev nD) (j : Fin 4) : (pieceM k d c j u).view.dmaCredit = NB := by
  cases k
  · exact credit_rs d j u
  · exact credit_ag d c j.val u

/-- Sending piece `j`: the piece goes, and the neighbour's next piece with it. -/
theorem wp_send {n : Dev nD} (hn : n = fwd d c)
    {src : Memref sig .tc (spc k) S512x1024 .bf16} (hs : src = pieceM k d c j.castSucc u)
    {dst : Memref sig .tc (spc k) S512x1024 .bf16} (hd : dst = pieceM k d (fwd d c) j.succ u)
    {q₁ q₂ : DmaSem sig} (hq₁ : q₁ = semOf k false d j u) (hq₂ : q₂ = semOf k true d j u)
    {hsc : (dst : Memref sig (Dev.tc n : Thread nD τ).2.kind (spc k) S512x1024 .bf16).view.ref.isScScratch = false}
    {hsrc : src.view.WordExact} {hdst : dst.view.WordExact}
    {hsem : DmaTarget.Typed (spc k) (.dma q₂) (.remote (Dev.tc n : Thread nD τ) dst (.dma q₁) hsc)}
    {α : Type} {Q : α → sProp 𝕄} {K : PUnit → Prog (TpuEff nD τ sig (Elt F) Λ₀ .tc) α} (O : CellTallies nD τ sig Unit) :
    iprop(records m ∗ (∃ W, owes (c : Thread nD τ) (O + tallyAt (recvC (fwd d c) k d j u) () NB) W)
        ∗ needS k d u c j ∗ pc k d c j.castSucc u (sentVal m k d u j.val c))
      ⊢ iprop((iprop(doneS k d u c j ∗ ∃ W, owes (c : Thread nD τ) O W) -∗ WP c (K ⟨⟩) Q)
          -∗ WP c (.op (.enqueueDma src (.remote (Dev.tc n : Thread nD τ) dst (.dma q₁) hsc) (.dma q₂) hsrc hdst hsem) K) Q) := by
  subst hn hs hd hq₁ hq₂
  unfold needS doneS pcAny pc owns
  iintro ⟨#HR, ⟨%W, HO⟩, ⟨Ht₁, Ht₂, ⟨%X, %fd, %hfd, Hd⟩, Hat⟩, ⟨%fs, %hfs, Hs⟩⟩ Hk
  ihave Hr₁ := (records_x m c k false d j u) $$ HR
  ihave Hr₂ := (records_x m (fwd d c) k true d j u) $$ HR
  icases Hr₁ with ⟨%κ₁, #Hi₁, #Hr₁⟩
  icases Hr₂ with ⟨%κ₂, #Hi₂, #Hr₂⟩
  iapply (Rounds.wp_send_pointsTo 𝒱₀ ER (Rd m) (c : Thread nD τ) none (κ₁ := κ₁) (κ₂ := κ₂)
    (sS := .dma (semOf k false d j u)) (sem := .dma (semOf k true d j u))
    (r₁ := 0) (r₂ := 0) (d₁ := false) (d₂ := false) (fd := fd) (fs := fs)
    (by rw [duties_x]; exact Finset.mem_singleton_self _) (by rw [duties_x]; exact Finset.mem_singleton_self _)
    () () NB (credit_piece k d u (fwd d c) j.succ) (amount_x m c k false d j u false) (amount_x m (fwd d c) k true d j u false) O rfl (W := W)
    (by rw [payload_send, ← hfs]; exact owns_intro _ _ _ _)
    (by rw [payload_recv, bwd_fwd, ← hfs]
        refine (owns_intro (fwd d c : Thread nD τ) (pieceM k d (fwd d c) j.succ u) fullShare _).trans (Entails.of_eq ?_)
        rw [View.read_write_univ]; unfold pc; exact rfl)) $$ [HO Ht₁ Ht₂ Hd Hs]
  · isplitr; · iexact Hi₁
    isplitr; · iexact Hi₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hat Hc]
  · isplitl [Hat]; · iexact Hat
    iexact Hc
  · iexists W; iexact HO

/-- A wait for a transfer at either end: its round's payment, and the cell at zero. -/
theorem wp_wait (b : Bool) (p ℓ : ℕ) (hℓ : lvKey (k, b, d, j, u) ≤ ℓ) (ha : above ℓ p = true)
    {q : DmaSem sig} (hq : q = semOf k b d j u) {sp' : Space} {s' : Shape} {e' : EltTy}
    {src : Memref sig .tc sp' s' e'} {dst : Memref sig .tc (spc k) S512x1024 .bf16} (hN : dst.view.dmaCredit = NB)
    {hsrc : src.view.WordExact} {hdst : dst.view.WordExact}
    {α : Type} {Q : α → sProp 𝕄} {K : PUnit → Prog (TpuEff nD τ sig (Elt F) Λ₀ .tc) α} :
    iprop(records m ∗ levAts L lv ∗ (∃ W, owes (c : Thread nD τ) (dues c p) W)
        ∗ atPos ER (cellX c k b d j u) 0 ∅ 0 ∗ cred (tallyAt (cellX c k b d j u) () NB))
      ⊢ iprop((iprop(semVal (cellX c k b d j u) 0 ∗ (Rd m).payload (cellX c k b d j u) 0 false ∗ ∃ W, owes (c : Thread nD τ) (dues c p) W) -∗ WP c (K ⟨⟩) Q)
          -∗ WP c (.op (.waitDma2 q src dst hsrc hdst) K) Q) := by
  subst hq
  iintro ⟨#HR, #HL, ⟨%W, HO⟩, Hat, Hc⟩ Hk
  ihave Hr := (records_x m c k b d j u) $$ HR
  icases Hr with ⟨%κ, #Hi, #Hr⟩
  iapply (Rounds.wp_wait_rest_token 𝒱₀ ER (Rd m) (c : Thread nD τ) none (κ := κ)
      (wpE_waitDma2_eq 𝒱₀ (c : Thread nD τ) none Set.univ) (Set.mem_univ _) () (O := dues c p) (W := W) (R := 0) (m := 0) (T := ∅)
      (by rw [Nat.zero_add, expect_x])) $$ [HO Hat Hc]
  · isplitr; · iexact Hi
    isplitl [Hc]; · rw [hN]; iexact Hc
    isplitl [HO]; · iexact HO
    isplitr; · iapply (mayWait_dues c _ p ℓ ((lv_x c k b d j u).le.trans hℓ) ha); iexact HL
    iexact Hat
  iintro ⟨HO, Hat, -, Hpay⟩
  ihave Hp := (Entails.of_eq (rest_x m c k b d j u)) $$ Hpay
  imod (Rounds.cell_close ER (Rd m) (Set.mem_univ κ) (fun h => h) (R := 0 + 1) (duties_later m (cellX c k b d j u))) $$ [Hat] with Hz
  · isplitr; · iexact Hi
    iexact Hat
  iapply Hk
  isplitl [Hz]; · iexact Hz
  isplitl [Hp]; · iexact Hp
  iexists (insert (SemLoc.dma (semOf k b d j u), ()) W); iexact HO

end Transfer

/-! ## Bands of the buffers -/

theorem dn_up {e : EltTy} (x : S512x1024.Idx → Elt F e) : dn (up x) = x := by
  unfold dn up; exact Idealize.ShloMosaic.shapeCast_shapeCast _ _ _
theorem up_dn {e : EltTy} (x : S1x512x1024.Idx → Elt F e) : up (dn x) = x := by
  unfold dn up; exact Idealize.ShloMosaic.shapeCast_shapeCast _ _ _

section Bands
variable (d : Bool) (c : Dev nD) (j u : Fin 4)

theorem comm_set (Mk : Finset (rsR j u).shape.Idx) (hMk : Mk = Finset.univ) : ((commM d).access (rsR j u)).setOn Mk = (rsM d j u).view.set := by
  subst hMk
  exact (Memref.set_view_squeeze ((commM d).slice (rsR j u) (fun _ => rfl)) squeezes_S1x512x1024_S512x1024).symm

/-- A load of a piece of a communication buffer. -/
theorem wp_loadC {M : Memref sig .tc .vmem S4x2048x1024 .bf16} (hM : M = commM d)
    {off : Fin 3 → ℕ} (hoff : off = rsOff j u) {inb : ∀ a, off a + S1x512x1024.size a ≤ S4x2048x1024.size a}
    {hl : M.view.LoadsAt (Rect.unit (s := S4x2048x1024) off S1x512x1024.size inb).toLoadRect}
    {α : Type} {Q : α → sProp 𝕄} {K : (S1x512x1024.Idx → Elt F .bf16) → Prog (TpuEff nD τ sig (Elt F) Λ₀ .tc) α} (X : S512x1024.Idx → Elt F .bf16) :
    pc false d c j u X ⊢ iprop((pc false d c j u X -∗ WP c (K (up X)) Q)
      -∗ WP c (.op (.load M (Rect.unit (s := S4x2048x1024) off S1x512x1024.size inb).toLoadRect hl) K) Q) := by
  subst hM hoff
  unfold pc owns
  iintro ⟨%f, %hf, H⟩ Hk
  ihave H := (show ((pieceM false d c j u).view.loc (c : Thread nD τ) ↦[(pieceM false d c j u).view.set]{fullShare} f)
    ⊢ ((commM d).view.loc (c : Thread nD τ) ↦[(rsM d j u).view.set]{fullShare} f : sProp 𝕄) from Entails.refl _) $$ H
  have hr : (commM d).view.readAt (Elt F) (rsR j u).toLoadRect f = up X := by
    rw [← hf]; exact (up_dn _).symm
  iapply (wp_load 𝒱₀ (c : Thread nD τ) none Set.univ (m := commM d) (r := (rsR j u).toLoadRect) (f := f) (q := fullShare) (S := (rsM d j u).view.set)
    (by rw [← comm_set d j u Finset.univ rfl]; show _ ⊆ ((commM d).view.slice (rsR j u)).set; rw [View.set_slice]; exact Finset.Subset.refl _)) $$ H
  iintro H
  rw [hr]
  iapply Hk
  iexists f; isplitr; · ipureintro; exact hf
  iexact H

/-- A store of one. -/
theorem wp_storeC {M : Memref sig .tc .vmem S4x2048x1024 .bf16} (hM : M = commM d)
    {off : Fin 3 → ℕ} (hoff : off = rsOff j u) {inb : ∀ a, off a + S1x512x1024.size a ≤ S4x2048x1024.size a}
    (X : S512x1024.Idx → Elt F .bf16) {w : S1x512x1024.Idx → Elt F .bf16} (hw : w = up X)
    {hx : (M.access (Rect.unit (s := S4x2048x1024) off S1x512x1024.size inb)).Stores Finset.univ}
    {hm : (Finset.univ : Finset (Rect.unit (s := S4x2048x1024) off S1x512x1024.size inb).shape.Idx) = Finset.univ
      ∨ ∀ a, (Rect.unit (s := S4x2048x1024) off S1x512x1024.size inb).stride a = 1}
    {α : Type} {Q : α → sProp 𝕄} {K : PUnit → Prog (TpuEff nD τ sig (Elt F) Λ₀ .tc) α} :
    pcAny (F := F) false d c j u ⊢ iprop((pc false d c j u X -∗ WP c (K ⟨⟩) Q)
      -∗ WP c (.op (.store M (Rect.unit (s := S4x2048x1024) off S1x512x1024.size inb) w Finset.univ hx hm) K) Q) := by
  subst hM hoff hw
  unfold pcAny pc owns
  iintro ⟨%Y, %f, %hf, H⟩ Hk
  ihave H := (show ((pieceM false d c j u).view.loc (c : Thread nD τ) ↦[(pieceM false d c j u).view.set]{fullShare} f)
    ⊢ (((commM d).access (rsR j u)).loc (c : Thread nD τ) ↦[(rsM d j u).view.set]{fullShare} f : sProp 𝕄) from Entails.refl _) $$ H
  iapply (wp_store 𝒱₀ (c : Thread nD τ) none Set.univ (m := commM d) (r := rsR j u) (f := f) (w := up X) (Mk := Finset.univ) (S := (rsM d j u).view.set)
    (by rw [comm_set d j u Finset.univ rfl]; exact Finset.Subset.refl _)) $$ H
  iintro H
  iapply Hk
  iexists _
  isplitr
  swap
  · iexact H
  ipureintro
  have h := View.read_write_univ (v := (commM d).access (rsR j u)) f (up X)
  show dn (((commM d).access (rsR j u)).read (Elt F) (((commM d).access (rsR j u)).write (Elt F) f (up X) Finset.univ)) = X
  rw [h]; exact dn_up X

/-- A load of a band of a staging buffer. -/
theorem wp_loadX (s : ℕ) {M : Memref sig .tc .vmem S2048x1024 .f32} (hM : M = xstM d)
    {off : Fin 2 → ℕ} (hoff : off = bandOff u) {inb : ∀ a, off a + S512x1024.size a ≤ S2048x1024.size a}
    {hl : M.view.LoadsAt (Rect.unit (s := S2048x1024) off S512x1024.size inb).toLoadRect}
    {α : Type} {Q : α → sProp 𝕄} {K : (S512x1024.Idx → Elt F .f32) → Prog (TpuEff nD τ sig (Elt F) Λ₀ .tc) α} :
    staged m c d (s + 1) ⊢ iprop((staged m c d (s + 1) -∗ WP c (K (xBand m d c s u)) Q)
      -∗ WP c (.op (.load M (Rect.unit (s := S2048x1024) off S512x1024.size inb).toLoadRect hl) K) Q) := by
  subst hM hoff
  unfold staged owns
  iintro ⟨%f, %hf, H⟩ Hk
  have hr : (xstM d).view.readAt (Elt F) (bandR u).toLoadRect f = xBand m d c s u := by
    unfold xBand; rw [← hf]; rfl
  have hS : (xstM d).view.setOn (bandR u).toLoadRect.set ⊆ (xstM d).view.set := Finset.map_subset_map.mpr (Finset.subset_univ _)
  iapply (wp_load 𝒱₀ (c : Thread nD τ) none Set.univ (m := xstM d) (r := (bandR u).toLoadRect) (f := f) (q := fullShare) hS) $$ H
  iintro H
  rw [hr]
  iapply Hk
  iexists f; isplitr; · ipureintro; exact hf
  iexact H

end Bands

end Cert.AllReduce
end
-- ==== Proof.Focus.lean ====
/-
The parts of the state one step works on, taken out and put back: a hop of a ring, a chain, a direction's side.
-/
module

public import proofs.«01_k».proof.Proof.Ops

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- One summand taken out, to be put back changed. -/
theorem bigSep_focus {I : Type} [Fintype I] [DecidableEq I] (i : I) {Φ Φ' : I → sProp 𝕄} (h : ∀ i', i' ≠ i → Φ i' = Φ' i') :
    bigSep Finset.univ Φ ⊢ iprop(Φ i ∗ (Φ' i -∗ bigSep Finset.univ Φ')) := by
  rw [bigSep_univ_split i (Φ := Φ), bigSep_univ_split i (Φ := Φ'),
    bigSep_congr (s := Finset.univ.erase i) (Φ := Φ) (Ψ := Φ') fun i' hi' => h i' (Finset.ne_of_mem_erase hi')]
  show iprop(Φ i ∗ bigSep (Finset.univ.erase i) Φ') ⊢ iprop(Φ i ∗ (Φ' i -∗ (Φ' i ∗ bigSep (Finset.univ.erase i) Φ')))
  iintro ⟨H, Hr⟩
  isplitl [H]; · iexact H
  iintro H
  isplitl [H]; · iexact H
  iexact Hr

/-! ## A ring after one more operation -/

section Ring
variable (k d : Bool) (u : Fin 4) (c : Dev nD)

theorem rgS_same {a w a' w' : ℕ} (h : ∀ j : Fin 3, (j.val < a ↔ j.val < a') ∧ (j.val < w ↔ j.val < w')) :
    rgS m k d u c a w = rgS m k d u c a' w' := by
  funext j; unfold rgS
  simp only [(h j).1, (h j).2]
theorem rgR_same {b b' : ℕ} (h : ∀ j : Fin 3, j.val < b ↔ j.val < b') : rgR (F := F) k d u c b = rgR k d u c b' := by
  funext j; unfold rgR
  simp only [h j]

theorem rg_send (j : Fin 3) (b w : ℕ) (hw : w ≤ j.val) :
    bigSep Finset.univ (rgS m k d u c j.val w) ⊢ iprop(needS k d u c j ∗ (doneS k d u c j -∗ bigSep Finset.univ (rgS m k d u c (j.val + 1) w))) := by
  have h := bigSep_focus (F := F) j (Φ := rgS m k d u c j.val w) (Φ' := rgS m k d u c (j.val + 1) w) fun i hi => by
    have hne : i.val ≠ j.val := fun h => hi (Fin.ext h)
    have hiff : i.val < j.val ↔ i.val < j.val + 1 := by omega
    unfold rgS; simp only [hiff]
  rw [show rgS m k d u c j.val w j = needS k d u c j from if_neg (lt_irrefl _),
    show rgS m k d u c (j.val + 1) w j = doneS k d u c j from (if_pos (Nat.lt_succ_self _)).trans (if_neg (by omega))] at h
  exact h
theorem rg_recv (j : Fin 3) :
    bigSep Finset.univ (rgR (F := F) k d u c j.val) ⊢ iprop(needR k d u c j ∗ (doneR k d u c j -∗ bigSep Finset.univ (rgR k d u c (j.val + 1)))) := by
  have h := bigSep_focus (F := F) j (Φ := rgR k d u c j.val) (Φ' := rgR k d u c (j.val + 1)) fun i hi => by
    have hne : i.val ≠ j.val := fun h => hi (Fin.ext h)
    have hiff : i.val < j.val ↔ i.val < j.val + 1 := by omega
    unfold rgR; simp only [hiff]
  rw [show rgR (F := F) k d u c j.val j = needR k d u c j from if_neg (lt_irrefl _),
    show rgR (F := F) k d u c (j.val + 1) j = doneR k d u c j from if_pos (Nat.lt_succ_self _)] at h
  exact h
theorem rg_fin (j : Fin 3) (a : ℕ) (ha : 3 ≤ a) :
    bigSep Finset.univ (rgS m k d u c a j.val) ⊢ iprop(doneS k d u c j ∗ (finS m k d u c j -∗ bigSep Finset.univ (rgS m k d u c (a + 1) (j.val + 1)))) := by
  have hj := j.isLt
  have h := bigSep_focus (F := F) j (Φ := rgS m k d u c a j.val) (Φ' := rgS m k d u c (a + 1) (j.val + 1)) fun i hi => by
    have hne : i.val ≠ j.val := fun h => hi (Fin.ext h)
    have hiff : i.val < j.val ↔ i.val < j.val + 1 := by omega
    have hiff' : i.val < a ↔ i.val < a + 1 := by have := i.isLt; omega
    unfold rgS; simp only [hiff, hiff']
  rw [show rgS m k d u c a j.val j = doneS k d u c j from (if_pos (by omega)).trans (if_neg (lt_irrefl _)),
    show rgS m k d u c (a + 1) (j.val + 1) j = finS m k d u c j from (if_pos (by omega)).trans (if_pos (Nat.lt_succ_self _))] at h
  exact h

end Ring

/-! ## The state, one chain of it taken out -/

section State
variable (c : Dev nD)

/-- What a step of chain `(d, u)` works on. -/
def View (s p : ℕ) (d : Bool) (u : Fin 4) (ph : ℕ) : sProp 𝕄 :=
  iprop((∃ W, owes (c : Thread nD τ) (dues c p) W) ∗ side m c s p d ∗ chain m c d u ph)

theorem side_other {p : ℕ} {ph : ℕ} {d : Bool} {u : Fin 4} (h : prog[p]? = some (ph, d, u)) (s : ℕ) (d' : Bool) (hd : d' ≠ d) :
    side m c s p d' = side m c s (p + 1) d' := by
  obtain ⟨hp, he⟩ := List.getElem?_eq_some_iff.mp h
  have hb := busy_ok ⟨p, hp⟩ d'
  rw [show prog.get ⟨p, hp⟩ = (ph, d, u) from he, if_neg (fun h => hd h.2.symm), if_neg (fun h => hd h.2.symm)] at hb
  unfold side outFree
  rw [hb]

theorem St_focus {s p ph : ℕ} {d : Bool} {u : Fin 4} (h : prog[p]? = some (ph, d, u)) :
    St m c s p ⊢ iprop(records m ∗ levAts L lv ∗ View m c s p d u ph ∗ (View m c s (p + 1) d u (ph + 1) -∗ St m c s (p + 1))) := by
  have hph := phase_at h
  unfold St View
  iintro ⟨#HR, #HL, HO, Hs, Hc⟩
  ihave Hs := (bigSep_focus (F := F) d fun d' hd => side_other m c h s d' hd) $$ Hs
  ihave Hc := (bigSep_focus (F := F) (d, u) (Φ := fun x : Chain => chain m c x.1 x.2 (phaseAt p x)) (Φ' := fun x : Chain => chain m c x.1 x.2 (phaseAt (p + 1) x))
    fun x hx => by rw [phase_step h x, if_neg (fun hh => hx hh.symm), Nat.add_zero]) $$ Hc
  rw [phase_step h (d, u), hph, if_pos rfl]
  icases Hs with ⟨Hs, Hs'⟩
  icases Hc with ⟨Hc, Hc'⟩
  isplitr; · iexact HR
  isplitr; · iexact HL
  isplitl [HO Hs Hc]
  · isplitl [HO]; · iexact HO
    isplitl [Hs]; · iexact Hs
    iexact Hc
  iintro ⟨HO, Hs, Hc⟩
  isplitr; · iexact HR
  isplitr; · iexact HL
  isplitl [HO]; · iexact HO
  isplitl [Hs Hs']; · iapply Hs' $$ Hs
  iapply Hc' $$ Hc

/-- A step that moves nothing out leaves its direction's side as it is. -/
theorem side_same {p : ℕ} {ph : ℕ} {d : Bool} {u : Fin 4} (h : prog[p]? = some (ph, d, u)) (h5 : ph ≠ 5) (h6 : ph ≠ 6) (s : ℕ) :
    side m c s (p + 1) d = side m c s p d := by
  obtain ⟨hp, he⟩ := List.getElem?_eq_some_iff.mp h
  have hb := busy_ok ⟨p, hp⟩ d
  rw [show prog.get ⟨p, hp⟩ = (ph, d, u) from he, if_neg (fun h => h5 h.1), if_neg (fun h => h6 h.1)] at hb
  unfold side outFree
  rw [hb]

/-- The free copy cell around a copy out. -/
theorem outFree_start {p : ℕ} {d : Bool} {u : Fin 4} (h : prog[p]? = some (5, d, u)) :
    outFree (F := F) c d p = semVal ((c : Thread nD τ), .dma (outS d)) 0 ∧ outFree (F := F) c d (p + 1) = iprop(emp) := by
  obtain ⟨hp, he⟩ := List.getElem?_eq_some_iff.mp h
  have hb := busy_ok ⟨p, hp⟩ d
  have hb' := (busy_pre ⟨p, hp⟩ d).1
  rw [show prog.get ⟨p, hp⟩ = (5, d, u) from he] at hb hb'
  rw [if_pos ⟨rfl, rfl⟩] at hb
  unfold outFree
  rw [hb, hb' ⟨rfl, rfl⟩]
  exact ⟨rfl, rfl⟩
theorem outFree_stop {p : ℕ} {d : Bool} {u : Fin 4} (h : prog[p]? = some (6, d, u)) :
    outFree (F := F) c d p = iprop(emp) ∧ outFree (F := F) c d (p + 1) = semVal ((c : Thread nD τ), .dma (outS d)) 0 := by
  obtain ⟨hp, he⟩ := List.getElem?_eq_some_iff.mp h
  have hb := busy_ok ⟨p, hp⟩ d
  have hb' := (busy_pre ⟨p, hp⟩ d).2
  rw [show prog.get ⟨p, hp⟩ = (6, d, u) from he] at hb hb'
  rw [if_neg (fun h => absurd h.1 (show ¬(6 : ℕ) = 5 by decide)), if_pos ⟨rfl, rfl⟩] at hb
  unfold outFree
  rw [hb, hb' ⟨rfl, rfl⟩]
  exact ⟨rfl, rfl⟩

end State

end Cert.AllReduce
end
-- ==== Proof.Chain.lean ====
/-
One chain through its sixteen steps: what each step works on, taken out of the chain and put back.
-/
module

public import proofs.«01_k».proof.Proof.Focus

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Parts
variable (c : Dev nD) (d : Bool) (u : Fin 4)

/-! ## The two sides of the two rings after `ph` steps -/

def Sf (ph : ℕ) : sProp 𝕄 := bigSep Finset.univ (rgS m false d u c ph (ph - 10))
def Rf (ph : ℕ) : sProp 𝕄 := bigSep Finset.univ (rgR (F := F) false d u c (ph - 1))
def Sa (ph : ℕ) : sProp 𝕄 := bigSep Finset.univ (rgS m true d u c (ph - 6) (ph - 13))
def Ra (ph : ℕ) : sProp 𝕄 := bigSep Finset.univ (rgR (F := F) true d u c (ph - 7))

theorem chain_eq (ph : ℕ) : chain m c d u ph
    = iprop((Sf m c d u ph ∗ Rf (F := F) c d u ph) ∗ (Sa m c d u ph ∗ Ra (F := F) c d u ph) ∗ held m c d u ph) := rfl

theorem Sf_send (j : Fin 3) : Sf m c d u j.val ⊢ iprop(needS false d u c j ∗ (doneS false d u c j -∗ Sf m c d u (j.val + 1))) := by
  have hj := j.isLt
  unfold Sf
  rw [show j.val - 10 = 0 by omega, show j.val + 1 - 10 = 0 by omega]
  exact rg_send m false d u c j 0 0 (Nat.zero_le _)
theorem Sf_fin (j : Fin 3) : Sf m c d u (j.val + 10) ⊢ iprop(doneS false d u c j ∗ (finS m false d u c j -∗ Sf m c d u (j.val + 11))) := by
  unfold Sf
  rw [show j.val + 10 - 10 = j.val by omega, show j.val + 11 - 10 = j.val + 1 by omega]
  exact rg_fin m false d u c j (j.val + 10) (by omega)
theorem Sf_idle (ph : ℕ) (h : (3 ≤ ph ∧ ph < 10) ∨ 13 ≤ ph) : Sf m c d u (ph + 1) = Sf m c d u ph := by
  unfold Sf; rw [rgS_same m false d u c (a' := ph) (w' := ph - 10) fun j => by have := j.isLt; omega]
theorem Rf_recv (j : Fin 3) : Rf (F := F) c d u (j.val + 1) ⊢ iprop(needR false d u c j ∗ (doneR false d u c j -∗ Rf c d u (j.val + 2))) :=
  rg_recv false d u c j
theorem Rf_idle (ph : ℕ) (h : ph = 0 ∨ 4 ≤ ph) : Rf (F := F) c d u (ph + 1) = Rf c d u ph := by
  unfold Rf; rw [rgR_same false d u c (b' := ph - 1) fun j => by have := j.isLt; omega]
theorem Sa_send (j : Fin 3) : Sa m c d u (j.val + 6) ⊢ iprop(needS true d u c j ∗ (doneS true d u c j -∗ Sa m c d u (j.val + 7))) := by
  have hj := j.isLt
  unfold Sa
  rw [show j.val + 6 - 13 = 0 by omega, show j.val + 7 - 13 = 0 by omega, show j.val + 6 - 6 = j.val by omega, show j.val + 7 - 6 = j.val + 1 by omega]
  exact rg_send m true d u c j 0 0 (Nat.zero_le _)
theorem Sa_fin (j : Fin 3) : Sa m c d u (j.val + 13) ⊢ iprop(doneS true d u c j ∗ (finS m true d u c j -∗ Sa m c d u (j.val + 14))) := by
  unfold Sa
  rw [show j.val + 13 - 13 = j.val by omega, show j.val + 14 - 13 = j.val + 1 by omega, show j.val + 13 - 6 = j.val + 7 by omega,
    show j.val + 14 - 6 = j.val + 7 + 1 by omega]
  exact rg_fin m true d u c j (j.val + 7) (by omega)
theorem Sa_idle (ph : ℕ) (h : ph < 6 ∨ (9 ≤ ph ∧ ph < 13)) : Sa m c d u (ph + 1) = Sa m c d u ph := by
  unfold Sa; rw [rgS_same m true d u c (a' := ph - 6) (w' := ph - 13) fun j => by have := j.isLt; omega]
theorem Ra_recv (j : Fin 3) : Ra (F := F) c d u (j.val + 7) ⊢ iprop(needR true d u c j ∗ (doneR true d u c j -∗ Ra c d u (j.val + 8))) := by
  unfold Ra
  rw [show j.val + 7 - 7 = j.val by omega, show j.val + 8 - 7 = j.val + 1 by omega]
  exact rg_recv true d u c j
theorem Ra_idle (ph : ℕ) (h : ph < 7 ∨ 10 ≤ ph) : Ra (F := F) c d u (ph + 1) = Ra c d u ph := by
  unfold Ra; rw [rgR_same true d u c (b' := ph - 7) fun j => by have := j.isLt; omega]

theorem held_acc (i : Fin 2) : held m c d u (i.val + 1) = pcAny (F := F) true d c 0 u ∧ held m c d u (i.val + 2) = pcAny (F := F) true d c 0 u := by
  fin_cases i <;> exact ⟨rfl, rfl⟩
theorem held_fwd (i : Fin 2) : held m c d u (i.val + 7) = pc false d c 3 u (finVal m d u c) ∧ held m c d u (i.val + 8) = pc false d c 3 u (finVal m d u c) := by
  fin_cases i <;> exact ⟨rfl, rfl⟩
theorem held_end (ph : ℕ) : held m c d u (ph + 10) = iprop(pc false d c 3 u (finVal m d u c) ∗ pc true d c 3 u (agVal m d u 3 c)) := rfl

/-! ## A chain, what its next step works on taken out -/

theorem chain_first : chain m c d u 0
    ⊢ iprop(needS false d u c 0 ∗ pcAny (F := F) false d c 0 u ∗ (doneS false d u c 0 -∗ chain m c d u 1)) := by
  rw [chain_eq, chain_eq, show Rf (F := F) c d u 1 = Rf c d u 0 from Rf_idle c d u 0 (.inl rfl), show Sa m c d u 1 = Sa m c d u 0 from Sa_idle m c d u 0 (.inl (by omega)), show Ra (F := F) c d u 1 = Ra c d u 0 from Ra_idle c d u 0 (.inl (by omega))]
  rw [show held m c d u 0 = iprop(pcAny (F := F) false d c 0 u ∗ pcAny (F := F) true d c 0 u) from rfl,
    show held m c d u 1 = pcAny (F := F) true d c 0 u from rfl]
  iintro ⟨⟨HS, HR⟩, HA, HP, HQ⟩
  ihave HS := (show Sf m c d u 0 ⊢ iprop(needS false d u c 0 ∗ (doneS false d u c 0 -∗ Sf m c d u 1)) from Sf_send m c d u 0) $$ HS
  icases HS with ⟨HS, HS'⟩
  isplitl [HS]; · iexact HS
  isplitl [HP]; · iexact HP
  iintro HD
  isplitl [HS' HR HD]
  · isplitl [HS' HD]; · iapply HS' $$ HD
    iexact HR
  isplitl [HA]; · iexact HA
  iexact HQ

theorem chain_acc (i : Fin 2) : chain m c d u (i.val + 1)
    ⊢ iprop(needR false d u c i.castSucc ∗ needS false d u c i.succ ∗ (iprop(doneR false d u c i.castSucc ∗ doneS false d u c i.succ) -∗ chain m c d u (i.val + 2))) := by
  have hi := i.isLt
  rw [chain_eq, chain_eq, show i.val + 2 = (i.val + 1) + 1 from rfl, Sa_idle m c d u (i.val + 1) (.inl (by omega)), Ra_idle c d u (i.val + 1) (.inl (by omega))]
  rw [(held_acc m c d u i).1, show i.val + 1 + 1 = i.val + 2 from rfl, (held_acc m c d u i).2]
  iintro ⟨⟨HS, HR⟩, HA, HQ⟩
  ihave HS := (show Sf m c d u (i.val + 1) ⊢ iprop(needS false d u c i.succ ∗ (doneS false d u c i.succ -∗ Sf m c d u (i.val + 2))) from Sf_send m c d u i.succ) $$ HS
  icases HS with ⟨HS, HS'⟩
  ihave HR := (show Rf (F := F) c d u (i.val + 1) ⊢ iprop(needR false d u c i.castSucc ∗ (doneR false d u c i.castSucc -∗ Rf c d u (i.val + 2))) from Rf_recv c d u i.castSucc) $$ HR
  icases HR with ⟨HR, HR'⟩
  isplitl [HR]; · iexact HR
  isplitl [HS]; · iexact HS
  iintro ⟨HD, HE⟩
  isplitl [HS' HR' HD HE]
  · isplitl [HS' HE]; · iapply HS' $$ HE
    iapply HR' $$ HD
  isplitl [HA]; · iexact HA
  iexact HQ

theorem chain_last : chain m c d u 3
    ⊢ iprop(needR false d u c 2 ∗ (iprop(doneR false d u c 2 ∗ pc false d c 3 u (rsVal m d u 3 c)) -∗ chain m c d u 4)) := by
  rw [chain_eq, chain_eq, show Sf m c d u 4 = Sf m c d u 3 from Sf_idle m c d u 3 (.inl (by omega)), show Sa m c d u 4 = Sa m c d u 3 from Sa_idle m c d u 3 (.inl (by omega)), show Ra (F := F) c d u 4 = Ra c d u 3 from Ra_idle c d u 3 (.inl (by omega))]
  rw [show held m c d u 3 = pcAny (F := F) true d c 0 u from rfl,
    show held m c d u 4 = iprop(pc false d c 3 u (rsVal m d u 3 c) ∗ pcAny (F := F) true d c 0 u) from rfl]
  iintro ⟨⟨HS, HR⟩, HA, HQ⟩
  ihave HR := (show Rf (F := F) c d u 3 ⊢ iprop(needR false d u c 2 ∗ (doneR false d u c 2 -∗ Rf c d u 4)) from Rf_recv c d u 2) $$ HR
  icases HR with ⟨HR, HR'⟩
  isplitl [HR]; · iexact HR
  iintro ⟨HD, HE⟩
  isplitl [HS HR' HD]
  · isplitl [HS]; · iexact HS
    iapply HR' $$ HD
  isplitl [HA]; · iexact HA
  isplitl [HE]; · iexact HE
  iexact HQ

theorem chain_fin : chain m c d u 4
    ⊢ iprop(pc false d c 3 u (rsVal m d u 3 c) ∗ (pc false d c 3 u (finVal m d u c) -∗ chain m c d u 5)) := by
  rw [chain_eq, chain_eq, show Sf m c d u 5 = Sf m c d u 4 from Sf_idle m c d u 4 (.inl (by omega)), show Rf (F := F) c d u 5 = Rf c d u 4 from Rf_idle c d u 4 (.inr (by omega)), show Sa m c d u 5 = Sa m c d u 4 from Sa_idle m c d u 4 (.inl (by omega)),
    show Ra (F := F) c d u 5 = Ra c d u 4 from Ra_idle c d u 4 (.inl (by omega))]
  rw [show held m c d u 4 = iprop(pc false d c 3 u (rsVal m d u 3 c) ∗ pcAny (F := F) true d c 0 u) from rfl,
    show held m c d u 5 = iprop(pc false d c 3 u (finVal m d u c) ∗ pcAny (F := F) true d c 0 u) from rfl]
  iintro ⟨HS, HA, HP, HQ⟩
  isplitl [HP]; · iexact HP
  iintro HP
  isplitl [HS]; · iexact HS
  isplitl [HA]; · iexact HA
  isplitl [HP]; · iexact HP
  iexact HQ

/-- The finished band on its way into the result. -/
def flight : sProp 𝕄 :=
  Transfers.Flight EC (c : Thread nD τ) (.dma (outS d)) () NB iprop(pc true d c 0 u (finVal m d u c) ∗ pc false d c 3 u (finVal m d u c))

theorem chain_copy : chain m c d u 5
    ⊢ iprop(pc false d c 3 u (finVal m d u c) ∗ pcAny (F := F) true d c 0 u ∗ (flight m c d u -∗ chain m c d u 6)) := by
  rw [chain_eq, chain_eq, show Sf m c d u 6 = Sf m c d u 5 from Sf_idle m c d u 5 (.inl (by omega)), show Rf (F := F) c d u 6 = Rf c d u 5 from Rf_idle c d u 5 (.inr (by omega)), show Sa m c d u 6 = Sa m c d u 5 from Sa_idle m c d u 5 (.inl (by omega)),
    show Ra (F := F) c d u 6 = Ra c d u 5 from Ra_idle c d u 5 (.inl (by omega))]
  rw [show held m c d u 5 = iprop(pc false d c 3 u (finVal m d u c) ∗ pcAny (F := F) true d c 0 u) from rfl,
    show held m c d u 6 = flight m c d u from rfl]
  iintro ⟨HS, HA, HP, HQ⟩
  isplitl [HP]; · iexact HP
  isplitl [HQ]; · iexact HQ
  iintro HP
  isplitl [HS]; · iexact HS
  isplitl [HA]; · iexact HA
  iexact HP

theorem chain_send : chain m c d u 6
    ⊢ iprop(flight m c d u ∗ needS true d u c 0 ∗ (iprop(doneS true d u c 0 ∗ pc false d c 3 u (finVal m d u c)) -∗ chain m c d u 7)) := by
  rw [chain_eq, chain_eq, show Sf m c d u 7 = Sf m c d u 6 from Sf_idle m c d u 6 (.inl (by omega)), show Rf (F := F) c d u 7 = Rf c d u 6 from Rf_idle c d u 6 (.inr (by omega)), show Ra (F := F) c d u 7 = Ra c d u 6 from Ra_idle c d u 6 (.inl (by omega))]
  rw [show held m c d u 6 = flight m c d u from rfl, show held m c d u 7 = pc false d c 3 u (finVal m d u c) from rfl]
  iintro ⟨HS, ⟨HA, HB⟩, HP⟩
  ihave HA := (show Sa m c d u 6 ⊢ iprop(needS true d u c 0 ∗ (doneS true d u c 0 -∗ Sa m c d u 7)) from Sa_send m c d u 0) $$ HA
  icases HA with ⟨HA, HA'⟩
  isplitl [HP]; · iexact HP
  isplitl [HA]; · iexact HA
  iintro ⟨HD, HP⟩
  isplitl [HS]; · iexact HS
  isplitl [HA' HB HD]
  · isplitl [HA' HD]; · iapply HA' $$ HD
    iexact HB
  iexact HP

theorem chain_fwd (i : Fin 2) : chain m c d u (i.val + 7)
    ⊢ iprop(needR true d u c i.castSucc ∗ needS true d u c i.succ ∗ (iprop(doneR true d u c i.castSucc ∗ doneS true d u c i.succ) -∗ chain m c d u (i.val + 8))) := by
  have hi := i.isLt
  rw [chain_eq, chain_eq, show i.val + 8 = (i.val + 7) + 1 from rfl, Sf_idle m c d u (i.val + 7) (.inl (by omega)), Rf_idle c d u (i.val + 7) (.inr (by omega))]
  rw [(held_fwd m c d u i).1, show i.val + 7 + 1 = i.val + 8 from rfl, (held_fwd m c d u i).2]
  iintro ⟨HS, ⟨HA, HB⟩, HQ⟩
  ihave HA := (show Sa m c d u (i.val + 7) ⊢ iprop(needS true d u c i.succ ∗ (doneS true d u c i.succ -∗ Sa m c d u (i.val + 8))) from by
    have h := Sa_send m c d u i.succ
    rwa [show i.succ.val + 6 = i.val + 7 by rw [Fin.val_succ], show i.succ.val + 7 = i.val + 8 by rw [Fin.val_succ]] at h) $$ HA
  icases HA with ⟨HA, HA'⟩
  ihave HB := (show Ra (F := F) c d u (i.val + 7) ⊢ iprop(needR true d u c i.castSucc ∗ (doneR true d u c i.castSucc -∗ Ra c d u (i.val + 8))) from Ra_recv c d u i.castSucc) $$ HB
  icases HB with ⟨HB, HB'⟩
  isplitl [HB]; · iexact HB
  isplitl [HA]; · iexact HA
  iintro ⟨HD, HE⟩
  isplitl [HS]; · iexact HS
  isplitl [HA' HB' HD HE]
  · isplitl [HA' HE]; · iapply HA' $$ HE
    iapply HB' $$ HD
  iexact HQ

theorem chain_recv : chain m c d u 9
    ⊢ iprop(needR true d u c 2 ∗ (iprop(doneR true d u c 2 ∗ pc true d c 3 u (agVal m d u 3 c)) -∗ chain m c d u 10)) := by
  rw [chain_eq, chain_eq, show Sf m c d u 10 = Sf m c d u 9 from Sf_idle m c d u 9 (.inl (by omega)), show Rf (F := F) c d u 10 = Rf c d u 9 from Rf_idle c d u 9 (.inr (by omega)), show Sa m c d u 10 = Sa m c d u 9 from Sa_idle m c d u 9 (.inr (by omega))]
  rw [show held m c d u 9 = pc false d c 3 u (finVal m d u c) from rfl, show held m c d u 10 = _ from held_end m c d u 0]
  iintro ⟨HS, ⟨HA, HB⟩, HP⟩
  ihave HB := (show Ra (F := F) c d u 9 ⊢ iprop(needR true d u c 2 ∗ (doneR true d u c 2 -∗ Ra c d u 10)) from Ra_recv c d u 2) $$ HB
  icases HB with ⟨HB, HB'⟩
  isplitl [HB]; · iexact HB
  iintro ⟨HD, HE⟩
  isplitl [HS]; · iexact HS
  isplitl [HA HB' HD]
  · isplitl [HA]; · iexact HA
    iapply HB' $$ HD
  isplitl [HP]; · iexact HP
  iexact HE

theorem chain_doneF (j : Fin 3) : chain m c d u (j.val + 10)
    ⊢ iprop(doneS false d u c j ∗ (finS m false d u c j -∗ chain m c d u (j.val + 11))) := by
  have hj := j.isLt
  rw [chain_eq, chain_eq, show j.val + 11 = (j.val + 10) + 1 from rfl, Rf_idle c d u (j.val + 10) (.inr (by omega)), Sa_idle m c d u (j.val + 10) (.inr (by omega)),
    Ra_idle c d u (j.val + 10) (.inr (by omega))]
  rw [held_end, show j.val + 10 + 1 = (j.val + 1) + 10 by omega, held_end, show j.val + 1 + 10 = j.val + 11 by omega]
  iintro ⟨⟨HS, HR⟩, HA, HQ⟩
  ihave HS := (Sf_fin m c d u j) $$ HS
  icases HS with ⟨HS, HS'⟩
  isplitl [HS]; · iexact HS
  iintro HD
  isplitl [HS' HR HD]
  · isplitl [HS' HD]; · iapply HS' $$ HD
    iexact HR
  isplitl [HA]; · iexact HA
  iexact HQ

theorem chain_doneA (j : Fin 3) : chain m c d u (j.val + 13)
    ⊢ iprop(doneS true d u c j ∗ (finS m true d u c j -∗ chain m c d u (j.val + 14))) := by
  have hj := j.isLt
  rw [chain_eq, chain_eq, show j.val + 14 = (j.val + 13) + 1 from rfl, Sf_idle m c d u (j.val + 13) (.inr (by omega)), Rf_idle c d u (j.val + 13) (.inr (by omega)),
    Ra_idle c d u (j.val + 13) (.inr (by omega))]
  rw [show held m c d u (j.val + 13) = _ from held_end m c d u (j.val + 3), show held m c d u (j.val + 13 + 1) = _ from held_end m c d u (j.val + 4)]
  iintro ⟨HS, ⟨HA, HB⟩, HQ⟩
  ihave HA := (Sa_fin m c d u j) $$ HA
  icases HA with ⟨HA, HA'⟩
  isplitl [HA]; · iexact HA
  iintro HD
  isplitl [HS]; · iexact HS
  isplitl [HA' HB HD]
  · isplitl [HA' HD]; · iapply HA' $$ HD
    iexact HB
  iexact HQ

end Parts

end Cert.AllReduce
end
-- ==== Proof.Steps.lean ====
/-
The kernel's steps, one rule each: from the state before a step to the state after it, for the operations the step is made of.
-/
module

public import proofs.«01_k».proof.Proof.Chain

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Lands
variable (c : Dev nD)

theorem outFree_same {p ph : ℕ} {d : Bool} {u : Fin 4} (h : prog[p]? = some (ph, d, u)) (h5 : ph ≠ 5) (h6 : ph ≠ 6) :
    outFree (F := F) c d (p + 1) = outFree c d p := by
  obtain ⟨hp, he⟩ := List.getElem?_eq_some_iff.mp h
  have hb := busy_ok ⟨p, hp⟩ d
  rw [show prog.get ⟨p, hp⟩ = (ph, d, u) from he, if_neg (fun h => h5 h.1), if_neg (fun h => h6 h.1)] at hb
  unfold outFree
  rw [hb]

theorem lv_out (d : Bool) : lv ((c : Thread nD τ), .dma (outS d)) () = 0 := by cases d <;> rfl
theorem lv_st (d : Bool) : lv ((c : Thread nD τ), .dma (stS d)) () = 0 := by cases d <;> rfl

/-- What a copy out leaves: the band in the result, and its source. -/
theorem flight_lands (d : Bool) (u : Fin 4) (fs : Buf (Elt F) ((rsM d 3 u).view.loc (c : Thread nD τ))) (fd : Buf (Elt F) ((agM d c 0 u).view.loc (c : Thread nD τ)))
    (hfs : (rsM d 3 u).view.read (Elt F) fs = finVal m d u c) :
    iprop(((agM d c 0 u).view.loc (c : Thread nD τ) ↦[(agM d c 0 u).view.set]{fullShare}
        ((agM d c 0 u).view.write (Elt F) fd (ReadAs.same.apply ((rsM d 3 u).view.read (Elt F) fs)) Finset.univ))
      ∗ ((rsM d 3 u).view.loc (c : Thread nD τ) ↦[(rsM d 3 u).view.set]{fullShare} fs))
    ⊢ iprop(pc true d c 0 u (finVal m d u c) ∗ pc false d c 3 u (finVal m d u c)) := by
  iintro ⟨H, H'⟩
  isplitl [H]
  · unfold pc owns
    iexists _
    isplitr
    swap
    · iexact H
    ipureintro
    show (agM d c 0 u).view.read (Elt F) ((agM d c 0 u).view.write (Elt F) fd ((rsM d 3 u).view.read (Elt F) fs) Finset.univ) = _
    rw [View.read_write_univ, hfs]
  · unfold pc owns
    iexists fs
    isplitr
    · ipureintro; exact hfs
    iexact H'

theorem recv_pay (k d : Bool) (j : Fin 3) (u : Fin 4) :
    (Rd m).payload (cellX c k true d j u) 0 false ⊢ pc k d c j.succ u (sentVal m k d u j.val (bwd d c)) := by
  rw [payload_recv]
theorem send_pay (k d : Bool) (j : Fin 3) (u : Fin 4) :
    (Rd m).payload (cellX c k false d j u) 0 false ⊢ pc k d c j.castSucc u (sentVal m k d u j.val c) := by
  rw [payload_send]

end Lands

section Steps
variable (c : Dev nD)

/-- Band `u` of a slot, as the kernel writes it. -/
abbrev slotM (M : Memref sig .tc .vmem S4x2048x1024 .bf16) (off : Fin 3 → ℕ) (inb : ∀ a, off a + S1x512x1024.size a ≤ S4x2048x1024.size a)
    (hs : ∀ a, (Rect.unit (s := S4x2048x1024) off S1x512x1024.size inb).stride a = 1) (hq : S1x512x1024.Squeezes S512x1024) : Memref sig .tc .vmem S512x1024 .bf16 :=
  (M.slice (Rect.unit (s := S4x2048x1024) off S1x512x1024.size inb) hs : Memref sig .tc .vmem S1x512x1024 .bf16).squeeze S512x1024 hq
/-- A part of the result, as the kernel writes it. -/
abbrev partM (M : Memref sig .tc .hbm S8192x2048 .bf16) (off : Fin 2 → ℕ) (inb : ∀ a, off a + S512x1024.size a ≤ S8192x2048.size a)
    (hs : ∀ a, (Rect.unit (s := S8192x2048) off S512x1024.size inb).stride a = 1) : Memref sig .tc .hbm S512x1024 .bf16 :=
  M.slice (Rect.unit (s := S8192x2048) off S512x1024.size inb) hs

theorem slotM_eq {d : Bool} {j u : Fin 4} {M : Memref sig .tc .vmem S4x2048x1024 .bf16} (hM : M = commM d) {off : Fin 3 → ℕ} (hoff : off = rsOff j u) (inb hs hq) :
    slotM M off inb hs hq = pieceM false d c j u := by subst hM hoff; rfl
theorem partM_eq {d : Bool} {j : ℕ} {u : Fin 4} {M : Memref sig .tc .hbm S8192x2048 .bf16} (hM : M = outM) {off : Fin 2 → ℕ} (hoff : off = agOff d c j u) (inb hs) :
    partM M off inb hs = agM d c j u := by subst hM hoff; rfl

variable {α : Type} {p : ℕ}

/-- The first piece: the band staged, rounded, stored and sent. -/
theorem step_first (d : Bool) (u : Fin 4) (h : prog[p]? = some (0, d, u))
    {X : Memref sig .tc .vmem S2048x1024 .f32} {offX : Fin 2 → ℕ} {inbX : ∀ a, offX a + S512x1024.size a ≤ S2048x1024.size a}
    {hlX : X.view.LoadsAt (Rect.unit (s := S2048x1024) offX S512x1024.size inbX).toLoadRect}
    {M : Memref sig .tc .vmem S4x2048x1024 .bf16} {off : Fin 3 → ℕ} {inb : ∀ a, off a + S1x512x1024.size a ≤ S4x2048x1024.size a}
    {hl : M.view.LoadsAt (Rect.unit (s := S4x2048x1024) off S1x512x1024.size inb).toLoadRect}
    {pay : (S512x1024.Idx → Elt F .f32) → S1x512x1024.Idx → Elt F .bf16} {hx : (M.access (Rect.unit (s := S4x2048x1024) off S1x512x1024.size inb)).Stores Finset.univ}
    {hm : (Finset.univ : Finset (Rect.unit (s := S4x2048x1024) off S1x512x1024.size inb).shape.Idx) = Finset.univ ∨ ∀ a, (Rect.unit (s := S4x2048x1024) off S1x512x1024.size inb).stride a = 1}
    {hs hq} {off₁ : Fin 3 → ℕ} {inb₁ hs₁ hq₁'} {n : Dev nD} {q₁ q₂ : DmaSem sig} {hsc} {hsrc} {hdst} {hsem}
    {K : PUnit → Prog (TpuEff nD τ sig (Elt F) Λ₀ .tc) α} {Q : α → sProp 𝕄}
    (hX : X = xstM d := by rfl) (hoffX : offX = bandOff u := by rfl) (hM : M = commM d := by rfl) (hoff : off = rsOff 0 u := by rfl)
    (hpay : ∀ v, pay v = up (firstV v) := by intro v; rfl) (hoff₁ : off₁ = rsOff 1 u := by rfl)
    (hn : n = fwd d c := by clear * - c; revert c; decide +kernel) (hq₁ : q₁ = semOf false false d 0 u := by rfl) (hq₂ : q₂ = semOf false true d 0 u := by rfl)
    (hk : St m c 1 (p + 1) ⊢ WP c (K ⟨⟩) Q) :
    St m c 1 p ⊢ WP c (.op (.load X (Rect.unit (s := S2048x1024) offX S512x1024.size inbX).toLoadRect hlX) fun v => .op (.load M (Rect.unit (s := S4x2048x1024) off S1x512x1024.size inb).toLoadRect hl) fun _ =>
      .op (.store M (Rect.unit (s := S4x2048x1024) off S1x512x1024.size inb) (pay v) Finset.univ hx hm) fun _ =>
      .op (.enqueueDma (slotM M off inb hs hq) (.remote (Dev.tc n : Thread nD τ) (slotM M off₁ inb₁ hs₁ hq₁') (.dma q₁) hsc) (.dma q₂) hsrc hdst hsem) K) Q := by
  refine (St_focus m c h).trans ?_
  unfold View side
  iintro ⟨#HR, #HL, ⟨HO, ⟨Ha, Hst, Hof, Hx⟩, Hc⟩, Hback⟩
  ihave Hc := (chain_first m c d u) $$ Hc
  icases Hc with ⟨HS, HP, Hc⟩
  unfold pcAny
  icases HP with ⟨%Y, HP⟩
  iapply (wp_loadX m d c u 0 hX hoffX) $$ Hx
  iintro Hx
  iapply (wp_loadC d c 0 u hM hoff Y) $$ HP
  iintro HP
  iapply (wp_storeC d c 0 u hM hoff (firstV (xBand m d c 0 u)) (hpay _)) $$ [HP]
  · unfold pcAny; iexists Y; iexact HP
  iintro HP
  iapply (wp_send m false d u c 0 hn (slotM_eq c hM hoff _ _ _) (slotM_eq (fwd d c) hM hoff₁ _ _ _) hq₁ hq₂ (dues c (p + 1))) $$ [HO HS HP]
  · isplitr; · iexact HR
    isplitl [HO]; · rw [dues_step c h]; iexact HO
    isplitl [HS]; · iexact HS
    iexact HP
  iintro ⟨HD, HO⟩
  iapply hk
  iapply Hback
  isplitl [HO]; · iexact HO
  isplitl [Ha Hst Hof Hx]
  · isplitl [Ha]; · iexact Ha
    isplitl [Hst]; · iexact Hst
    isplitl [Hof]; · rw [show outFree (F := F) c d (p + 1) = outFree c d p from outFree_same c h (by decide) (by decide)]; iexact Hof
    iexact Hx
  iapply Hc $$ HD

/-- A piece received, the band staged added to it, stored and sent on. -/
theorem step_acc (i : Fin 2) (d : Bool) (u : Fin 4) (h : prog[p]? = some (i.val + 1, d, u))
    {q₀ : DmaSem sig} {sp' : Space} {s' : Shape} {e' : EltTy} {src : Memref sig .tc sp' s' e'} {dst : Memref sig .tc .vmem S512x1024 .bf16} {hsrc₀ hdst₀}
    {X : Memref sig .tc .vmem S2048x1024 .f32} {offX : Fin 2 → ℕ} {inbX : ∀ a, offX a + S512x1024.size a ≤ S2048x1024.size a}
    {hlX : X.view.LoadsAt (Rect.unit (s := S2048x1024) offX S512x1024.size inbX).toLoadRect}
    {M : Memref sig .tc .vmem S4x2048x1024 .bf16} {off : Fin 3 → ℕ} {inb : ∀ a, off a + S1x512x1024.size a ≤ S4x2048x1024.size a}
    {hl hl' : M.view.LoadsAt (Rect.unit (s := S4x2048x1024) off S1x512x1024.size inb).toLoadRect}
    {pay : (S1x512x1024.Idx → Elt F .bf16) → (S512x1024.Idx → Elt F .f32) → S1x512x1024.Idx → Elt F .bf16} {hx : (M.access (Rect.unit (s := S4x2048x1024) off S1x512x1024.size inb)).Stores Finset.univ}
    {hm : (Finset.univ : Finset (Rect.unit (s := S4x2048x1024) off S1x512x1024.size inb).shape.Idx) = Finset.univ ∨ ∀ a, (Rect.unit (s := S4x2048x1024) off S1x512x1024.size inb).stride a = 1}
    {hs hq} {off₁ : Fin 3 → ℕ} {inb₁ hs₁ hq₁'} {n : Dev nD} {q₁ q₂ : DmaSem sig} {hsc} {hsrc} {hdst} {hsem}
    {K : PUnit → Prog (TpuEff nD τ sig (Elt F) Λ₀ .tc) α} {Q : α → sProp 𝕄}
    (hN : dst.view.dmaCredit = NB := by rfl) (hq₀ : q₀ = semOf false true d i.castSucc u := by rfl)
    (hX : X = xstM d := by rfl) (hoffX : offX = bandOff u := by rfl) (hM : M = commM d := by rfl) (hoff : off = rsOff i.castSucc.succ u := by rfl)
    (hpay : ∀ v x, pay v x = up (accV v x) := by intro v x; rfl) (hoff₁ : off₁ = rsOff i.succ.succ u := by rfl)
    (hn : n = fwd d c := by clear * - c; revert c; decide +kernel) (hq₁ : q₁ = semOf false false d i.succ u := by rfl) (hq₂ : q₂ = semOf false true d i.succ u := by rfl)
    (hk : St m c (i.val + 2) (p + 1) ⊢ WP c (K ⟨⟩) Q) :
    St m c (i.val + 2) p ⊢ WP c (.op (.waitDma2 q₀ src dst hsrc₀ hdst₀) fun _ => .op (.load M (Rect.unit (s := S4x2048x1024) off S1x512x1024.size inb).toLoadRect hl) fun v =>
      .op (.load X (Rect.unit (s := S2048x1024) offX S512x1024.size inbX).toLoadRect hlX) fun x => .op (.load M (Rect.unit (s := S4x2048x1024) off S1x512x1024.size inb).toLoadRect hl') fun _ =>
      .op (.store M (Rect.unit (s := S4x2048x1024) off S1x512x1024.size inb) (pay v x) Finset.univ hx hm) fun _ =>
      .op (.enqueueDma (slotM M off inb hs hq) (.remote (Dev.tc n : Thread nD τ) (slotM M off₁ inb₁ hs₁ hq₁') (.dma q₁) hsc) (.dma q₂) hsrc hdst hsem) K) Q := by
  have hlv : lvKey (false, true, d, i.castSucc, u) ≤ waitLv (i.val + 1) := by fin_cases i <;> exact le_refl _
  have hhop : tally c (i.val + 1, d, u) = tallyAt (recvC (fwd d c) false d i.succ u) () NB := by fin_cases i <;> rfl
  have h5 : i.val + 1 ≠ 5 := by omega
  have h6 : i.val + 1 ≠ 6 := by omega
  refine (St_focus m c h).trans ?_
  unfold View side
  iintro ⟨#HR, #HL, ⟨HO, ⟨Ha, Hst, Hof, Hx⟩, Hc⟩, Hback⟩
  ihave Hc := (chain_acc m c d u i) $$ Hc
  icases Hc with ⟨HN, HS, Hc⟩
  unfold needR
  icases HN with ⟨Hat, Hcr⟩
  iapply (wp_wait m false d u c i.castSucc true p (waitLv (i.val + 1)) hlv (above_at h) hq₀ hN) $$ [HO Hat Hcr]
  · isplitr; · iexact HR
    isplitr; · iexact HL
    isplitl [HO]; · iexact HO
    isplitl [Hat]; · iexact Hat
    iexact Hcr
  iintro ⟨Hz, HP, HO⟩
  ihave HP := (recv_pay m c false d i.castSucc u) $$ HP
  iapply (wp_loadC d c i.castSucc.succ u hM hoff _) $$ HP
  iintro HP
  iapply (wp_loadX m d c u (i.val + 1) hX hoffX) $$ Hx
  iintro Hx
  iapply (wp_loadC d c i.castSucc.succ u hM hoff _) $$ HP
  iintro HP
  iapply (wp_storeC d c i.castSucc.succ u hM hoff (rsVal m d u (i.val + 1) c) (hpay _ _)) $$ [HP]
  · unfold pcAny; iexists _; iexact HP
  iintro HP
  iapply (wp_send m false d u c i.succ hn (slotM_eq c hM hoff _ _ _) (slotM_eq (fwd d c) hM hoff₁ _ _ _) hq₁ hq₂ (dues c (p + 1))) $$ [HO HS HP]
  · isplitr; · iexact HR
    isplitl [HO]; · rw [dues_step c h, hhop]; iexact HO
    isplitl [HS]; · iexact HS
    iexact HP
  iintro ⟨HD, HO⟩
  iapply hk
  iapply Hback
  isplitl [HO]; · iexact HO
  isplitl [Ha Hst Hof Hx]
  · isplitl [Ha]; · iexact Ha
    isplitl [Hst]; · iexact Hst
    isplitl [Hof]; · rw [show outFree (F := F) c d (p + 1) = outFree c d p from outFree_same c h h5 h6]; iexact Hof
    iexact Hx
  iapply Hc
  isplitl [Hz]; · unfold doneR; iexact Hz
  iexact HD

/-- The last piece received and the band staged added to it. -/
theorem step_last (d : Bool) (u : Fin 4) (h : prog[p]? = some (3, d, u))
    {q₀ : DmaSem sig} {sp' : Space} {s' : Shape} {e' : EltTy} {src : Memref sig .tc sp' s' e'} {dst : Memref sig .tc .vmem S512x1024 .bf16} {hsrc₀ hdst₀}
    {X : Memref sig .tc .vmem S2048x1024 .f32} {offX : Fin 2 → ℕ} {inbX : ∀ a, offX a + S512x1024.size a ≤ S2048x1024.size a}
    {hlX : X.view.LoadsAt (Rect.unit (s := S2048x1024) offX S512x1024.size inbX).toLoadRect}
    {M : Memref sig .tc .vmem S4x2048x1024 .bf16} {off : Fin 3 → ℕ} {inb : ∀ a, off a + S1x512x1024.size a ≤ S4x2048x1024.size a}
    {hl hl' : M.view.LoadsAt (Rect.unit (s := S4x2048x1024) off S1x512x1024.size inb).toLoadRect}
    {pay : (S1x512x1024.Idx → Elt F .bf16) → (S512x1024.Idx → Elt F .f32) → S1x512x1024.Idx → Elt F .bf16} {hx : (M.access (Rect.unit (s := S4x2048x1024) off S1x512x1024.size inb)).Stores Finset.univ}
    {hm : (Finset.univ : Finset (Rect.unit (s := S4x2048x1024) off S1x512x1024.size inb).shape.Idx) = Finset.univ ∨ ∀ a, (Rect.unit (s := S4x2048x1024) off S1x512x1024.size inb).stride a = 1}
    {K : PUnit → Prog (TpuEff nD τ sig (Elt F) Λ₀ .tc) α} {Q : α → sProp 𝕄}
    (hN : dst.view.dmaCredit = NB := by rfl) (hq₀ : q₀ = semOf false true d 2 u := by rfl)
    (hX : X = xstM d := by rfl) (hoffX : offX = bandOff u := by rfl) (hM : M = commM d := by rfl) (hoff : off = rsOff 3 u := by rfl)
    (hpay : ∀ v x, pay v x = up (accV v x) := by intro v x; rfl)
    (hk : St m c 4 (p + 1) ⊢ WP c (K ⟨⟩) Q) :
    St m c 4 p ⊢ WP c (.op (.waitDma2 q₀ src dst hsrc₀ hdst₀) fun _ => .op (.load M (Rect.unit (s := S4x2048x1024) off S1x512x1024.size inb).toLoadRect hl) fun v =>
      .op (.load X (Rect.unit (s := S2048x1024) offX S512x1024.size inbX).toLoadRect hlX) fun x => .op (.load M (Rect.unit (s := S4x2048x1024) off S1x512x1024.size inb).toLoadRect hl') fun _ =>
      .op (.store M (Rect.unit (s := S4x2048x1024) off S1x512x1024.size inb) (pay v x) Finset.univ hx hm) K) Q := by
  refine (St_focus m c h).trans ?_
  unfold View
  rw [side_same m c h (by decide) (by decide) 4, dues_none c h rfl]
  unfold side
  iintro ⟨#HR, #HL, ⟨HO, ⟨Ha, Hst, Hof, Hx⟩, Hc⟩, Hback⟩
  ihave Hc := (chain_last m c d u) $$ Hc
  icases Hc with ⟨HN, Hc⟩
  unfold needR
  icases HN with ⟨Hat, Hcr⟩
  iapply (wp_wait m false d u c 2 true p 3 (le_refl 3) (above_at h) hq₀ hN) $$ [HO Hat Hcr]
  · isplitr; · iexact HR
    isplitr; · iexact HL
    isplitl [HO]; · iexact HO
    isplitl [Hat]; · iexact Hat
    iexact Hcr
  iintro ⟨Hz, HP, HO⟩
  ihave HP := (recv_pay m c false d 2 u) $$ HP
  ihave HP := (show pc false d c (Fin.succ 2) u (sentVal m false d u (2 : Fin 3).val (bwd d c)) ⊢ pc false d c 3 u (rsVal m d u 2 (bwd d c)) from Entails.refl _) $$ HP
  iapply (wp_loadC d c 3 u hM hoff _) $$ HP
  iintro HP
  iapply (wp_loadX m d c u 3 hX hoffX) $$ Hx
  iintro Hx
  iapply (wp_loadC d c 3 u hM hoff _) $$ HP
  iintro HP
  iapply (wp_storeC d c 3 u hM hoff (rsVal m d u 3 c) (hpay _ _)) $$ [HP]
  · unfold pcAny; iexists _; iexact HP
  iintro HP
  iapply hk
  iapply Hback
  isplitl [HO]; · iexact HO
  isplitl [Ha Hst Hof Hx]
  · isplitl [Ha]; · iexact Ha
    isplitl [Hst]; · iexact Hst
    isplitl [Hof]; · iexact Hof
    iexact Hx
  iapply Hc
  isplitl [Hz]; · unfold doneR; iexact Hz
  iexact HP

/-- The function applied to the finished sum. -/
theorem step_fin (d : Bool) (u : Fin 4) (h : prog[p]? = some (4, d, u))
    {M : Memref sig .tc .vmem S4x2048x1024 .bf16} {off : Fin 3 → ℕ} {inb : ∀ a, off a + S1x512x1024.size a ≤ S4x2048x1024.size a}
    {hl hl' : M.view.LoadsAt (Rect.unit (s := S4x2048x1024) off S1x512x1024.size inb).toLoadRect}
    {pay : (S1x512x1024.Idx → Elt F .bf16) → S1x512x1024.Idx → Elt F .bf16} {hx : (M.access (Rect.unit (s := S4x2048x1024) off S1x512x1024.size inb)).Stores Finset.univ}
    {hm : (Finset.univ : Finset (Rect.unit (s := S4x2048x1024) off S1x512x1024.size inb).shape.Idx) = Finset.univ ∨ ∀ a, (Rect.unit (s := S4x2048x1024) off S1x512x1024.size inb).stride a = 1}
    {K : PUnit → Prog (TpuEff nD τ sig (Elt F) Λ₀ .tc) α} {Q : α → sProp 𝕄}
    (hM : M = commM d := by rfl) (hoff : off = rsOff 3 u := by rfl) (hpay : ∀ v, pay v = up (finV v) := by intro v; rfl)
    (hk : St m c 4 (p + 1) ⊢ WP c (K ⟨⟩) Q) :
    St m c 4 p ⊢ WP c (.op (.load M (Rect.unit (s := S4x2048x1024) off S1x512x1024.size inb).toLoadRect hl) fun v => .op (.load M (Rect.unit (s := S4x2048x1024) off S1x512x1024.size inb).toLoadRect hl') fun _ =>
      .op (.store M (Rect.unit (s := S4x2048x1024) off S1x512x1024.size inb) (pay v) Finset.univ hx hm) K) Q := by
  refine (St_focus m c h).trans ?_
  unfold View
  rw [side_same m c h (by decide) (by decide) 4, dues_none c h rfl]
  iintro ⟨#HR, #HL, ⟨HO, Hs, Hc⟩, Hback⟩
  ihave Hc := (chain_fin m c d u) $$ Hc
  icases Hc with ⟨HP, Hc⟩
  iapply (wp_loadC d c 3 u hM hoff _) $$ HP
  iintro HP
  iapply (wp_loadC d c 3 u hM hoff _) $$ HP
  iintro HP
  iapply (wp_storeC d c 3 u hM hoff (finVal m d u c) (hpay _)) $$ [HP]
  · unfold pcAny; iexists _; iexact HP
  iintro HP
  iapply hk
  iapply Hback
  isplitl [HO]; · iexact HO
  isplitl [Hs]; · iexact Hs
  iapply Hc $$ HP

/-- The finished band sent on its way into the result. -/
theorem step_copy (d : Bool) (u : Fin 4) (h : prog[p]? = some (5, d, u))
    {M : Memref sig .tc .vmem S4x2048x1024 .bf16} {off : Fin 3 → ℕ} {inb hs hq} {N : Memref sig .tc .hbm S8192x2048 .bf16} {off₁ : Fin 2 → ℕ} {inb₁ hs₁}
    {q : DmaSem sig} {hsrc hdst hsem} {K : PUnit → Prog (TpuEff nD τ sig (Elt F) Λ₀ .tc) α} {Q : α → sProp 𝕄}
    (hM : M = commM d := by rfl) (hoff : off = rsOff 3 u := by rfl) (hNM : N = outM := by rfl) (hoff₁ : off₁ = agOff d c 0 u := by clear * - c; revert c; decide +kernel)
    (hq' : q = outS d := by rfl) (hk : St m c 4 (p + 1) ⊢ WP c (K ⟨⟩) Q) :
    St m c 4 p ⊢ WP c (.op (.enqueueDma (slotM M off inb hs hq) (.here (partM N off₁ inb₁ hs₁)) (.dma q) hsrc hdst hsem) K) Q := by
  subst hM hoff hNM hoff₁ hq'
  refine (St_focus m c h).trans ?_
  unfold View side
  rw [(outFree_start c h).1, (outFree_start c h).2, dues_none c h rfl]
  iintro ⟨#HR, #HL, ⟨HO, ⟨Ha, Hst, Hof, Hx⟩, Hc⟩, Hback⟩
  ihave Hc := (chain_copy m c d u) $$ Hc
  icases Hc with ⟨HP, HD, Hc⟩
  unfold pcAny pc owns
  icases HP with ⟨%fs, %hfs, HP⟩
  icases HD with ⟨%Y, %fd, %hfd, HD⟩
  ihave HP := (show ((pieceM false d c 3 u).view.loc (c : Thread nD τ) ↦[(pieceM false d c 3 u).view.set]{fullShare} fs)
    ⊢ ((rsM d 3 u).view.loc (c : Thread nD τ) ↦[(rsM d 3 u).view.set]{fullShare} fs : sProp 𝕄) from Entails.refl _) $$ HP
  ihave HD := (show ((pieceM true d c 0 u).view.loc (c : Thread nD τ) ↦[(pieceM true d c 0 u).view.set]{fullShare} fd)
    ⊢ ((agM d c 0 u).view.loc (c : Thread nD τ) ↦[(agM d c 0 u).view.set]{fullShare} fd : sProp 𝕄) from Entails.refl _) $$ HD
  iapply (Transfers.wp_dmaLocal EC 𝒱₀ (c : Thread nD τ) none (src := rsM d 3 u) (dst := agM d c 0 u) (via := .same) (sm := .dma (outS d)) (fs := fs) (fd := fd)
    (q := fullShare) (Sd := (agM d c 0 u).view.set) () NB (credit_ag d c 0 u) NB_pos (Finset.Subset.refl _)) $$ [HP HD Hof]
  · isplitl [HP]; · iexact HP
    isplitl [HD]; · iexact HD
    iexact Hof
  iintro Hf
  ihave Hf := (Transfers.Flight_mono EC (c : Thread nD τ) (D' := iprop(pc true d c 0 u (finVal m d u c) ∗ pc false d c 3 u (finVal m d u c)))
    (flight_lands m c d u fs fd hfs)) $$ Hf
  iapply hk
  iapply Hback
  isplitl [HO]; · iexact HO
  isplitl [Ha Hst Hx]
  · isplitl [Ha]; · iexact Ha
    isplitl [Hst]; · iexact Hst
    isplitr; · iempintro
    iexact Hx
  iapply Hc
  unfold flight
  iexact Hf

/-- The band in the result, sent to the neighbour. -/
theorem step_send (d : Bool) (u : Fin 4) (h : prog[p]? = some (6, d, u))
    {q₀ : DmaSem sig} {sp' : Space} {s' : Shape} {e' : EltTy} {src : Memref sig .tc sp' s' e'} {dst : Memref sig .tc .hbm S512x1024 .bf16} {hsrc₀ hdst₀}
    {N : Memref sig .tc .hbm S8192x2048 .bf16} {off : Fin 2 → ℕ} {inb hs inb₁ hs₁} {n : Dev nD} {q₁ q₂ : DmaSem sig} {hsc} {hsrc} {hdst} {hsem}
    {K : PUnit → Prog (TpuEff nD τ sig (Elt F) Λ₀ .tc) α} {Q : α → sProp 𝕄}
    (hN : dst.view.dmaCredit = NB := by rfl) (hq₀ : q₀ = outS d := by rfl)
    (hNM : N = outM := by rfl) (hoff : off = agOff d c 0 u := by clear * - c; revert c; decide +kernel)
    (hn : n = fwd d c := by clear * - c; revert c; decide +kernel) (hq₁ : q₁ = semOf true false d 0 u := by rfl) (hq₂ : q₂ = semOf true true d 0 u := by rfl)
    (hk : St m c 4 (p + 1) ⊢ WP c (K ⟨⟩) Q) :
    St m c 4 p ⊢ WP c (.op (.waitDma2 q₀ src dst hsrc₀ hdst₀) fun _ =>
      .op (.enqueueDma (partM N off inb hs) (.remote (Dev.tc n : Thread nD τ) (partM N off inb₁ hs₁) (.dma q₁) hsc) (.dma q₂) hsrc hdst hsem) K) Q := by
  subst hq₀
  refine (St_focus m c h).trans ?_
  unfold View side
  rw [(outFree_stop c h).1, (outFree_stop c h).2]
  iintro ⟨#HR, #HL, ⟨⟨%W, HO⟩, ⟨Ha, Hst, -, Hx⟩, Hc⟩, Hback⟩
  ihave Hc := (chain_send m c d u) $$ Hc
  icases Hc with ⟨HF, HS, Hc⟩
  unfold flight
  iapply (Transfers.wp_waitLocalO EC 𝒱₀ (c : Thread nD τ) none () hN) $$ [HF HO]
  · isplitl [HF]; · iexact HF
    isplitl [HO]; · iexact HO
    iapply (mayWait_dues c _ p 0 (lv_out c d).le (above_at h)); iexact HL
  iintro ⟨⟨HP, HP'⟩, Hz, HO⟩
  iapply (wp_send m true d u c 0 hn (partM_eq c hNM hoff _ _) ((partM_eq c hNM hoff _ _).trans (agM_fwd d c 0 u).symm) hq₁ hq₂ (dues c (p + 1))) $$ [HO HS HP]
  · isplitr; · iexact HR
    isplitl [HO]; · iexists _; rw [dues_step c h]; iexact HO
    isplitl [HS]; · iexact HS
    iexact HP
  iintro ⟨HD, HO⟩
  iapply hk
  iapply Hback
  isplitl [HO]; · iexact HO
  isplitl [Ha Hst Hz Hx]
  · isplitl [Ha]; · iexact Ha
    isplitl [Hst]; · iexact Hst
    isplitl [Hz]; · iexact Hz
    iexact Hx
  iapply Hc
  isplitl [HD]; · iexact HD
  iexact HP'

/-- A finished band received and sent on. -/
theorem step_fwd (i : Fin 2) (d : Bool) (u : Fin 4) (h : prog[p]? = some (i.val + 7, d, u))
    {q₀ : DmaSem sig} {sp' : Space} {s' : Shape} {e' : EltTy} {src : Memref sig .tc sp' s' e'} {dst : Memref sig .tc .hbm S512x1024 .bf16} {hsrc₀ hdst₀}
    {N : Memref sig .tc .hbm S8192x2048 .bf16} {off : Fin 2 → ℕ} {inb hs inb₁ hs₁} {n : Dev nD} {q₁ q₂ : DmaSem sig} {hsc} {hsrc} {hdst} {hsem}
    {K : PUnit → Prog (TpuEff nD τ sig (Elt F) Λ₀ .tc) α} {Q : α → sProp 𝕄}
    (hN : dst.view.dmaCredit = NB := by rfl) (hq₀ : q₀ = semOf true true d i.castSucc u := by rfl)
    (hNM : N = outM := by rfl) (hoff : off = agOff d c (i.val + 1) u := by clear * - c; revert c; decide +kernel)
    (hn : n = fwd d c := by clear * - c; revert c; decide +kernel) (hq₁ : q₁ = semOf true false d i.succ u := by rfl) (hq₂ : q₂ = semOf true true d i.succ u := by rfl)
    (hk : St m c 4 (p + 1) ⊢ WP c (K ⟨⟩) Q) :
    St m c 4 p ⊢ WP c (.op (.waitDma2 q₀ src dst hsrc₀ hdst₀) fun _ =>
      .op (.enqueueDma (partM N off inb hs) (.remote (Dev.tc n : Thread nD τ) (partM N off inb₁ hs₁) (.dma q₁) hsc) (.dma q₂) hsrc hdst hsem) K) Q := by
  have hlv : lvKey (true, true, d, i.castSucc, u) ≤ waitLv (i.val + 7) := by fin_cases i <;> exact le_refl _
  have hhop : tally c (i.val + 7, d, u) = tallyAt (recvC (fwd d c) true d i.succ u) () NB := by fin_cases i <;> rfl
  refine (St_focus m c h).trans ?_
  unfold View
  rw [side_same m c h (by omega) (by omega) 4]
  iintro ⟨#HR, #HL, ⟨HO, Hs, Hc⟩, Hback⟩
  ihave Hc := (chain_fwd m c d u i) $$ Hc
  icases Hc with ⟨HN, HS, Hc⟩
  unfold needR
  icases HN with ⟨Hat, Hcr⟩
  iapply (wp_wait m true d u c i.castSucc true p (waitLv (i.val + 7)) hlv (above_at h) hq₀ hN) $$ [HO Hat Hcr]
  · isplitr; · iexact HR
    isplitr; · iexact HL
    isplitl [HO]; · iexact HO
    isplitl [Hat]; · iexact Hat
    iexact Hcr
  iintro ⟨Hz, HP, HO⟩
  ihave HP := (recv_pay m c true d i.castSucc u) $$ HP
  iapply (wp_send m true d u c i.succ hn (partM_eq c hNM hoff _ _) ((partM_eq c hNM hoff _ _).trans (agM_fwd d c (i.val + 1) u).symm) hq₁ hq₂ (dues c (p + 1))) $$ [HO HS HP]
  · isplitr; · iexact HR
    isplitl [HO]; · rw [dues_step c h, hhop]; iexact HO
    isplitl [HS]; · iexact HS
    iexact HP
  iintro ⟨HD, HO⟩
  iapply hk
  iapply Hback
  isplitl [HO]; · iexact HO
  isplitl [Hs]; · iexact Hs
  iapply Hc
  isplitl [Hz]; · unfold doneR; iexact Hz
  iexact HD

/-- The last finished band received. -/
theorem step_recv (d : Bool) (u : Fin 4) (h : prog[p]? = some (9, d, u))
    {q₀ : DmaSem sig} {sp' : Space} {s' : Shape} {e' : EltTy} {src : Memref sig .tc sp' s' e'} {dst : Memref sig .tc .hbm S512x1024 .bf16} {hsrc₀ hdst₀}
    {K : PUnit → Prog (TpuEff nD τ sig (Elt F) Λ₀ .tc) α} {Q : α → sProp 𝕄}
    (hN : dst.view.dmaCredit = NB := by rfl) (hq₀ : q₀ = semOf true true d 2 u := by rfl)
    (hk : St m c 4 (p + 1) ⊢ WP c (K ⟨⟩) Q) :
    St m c 4 p ⊢ WP c (.op (.waitDma2 q₀ src dst hsrc₀ hdst₀) K) Q := by
  refine (St_focus m c h).trans ?_
  unfold View
  rw [side_same m c h (by omega) (by omega) 4, dues_none c h rfl]
  iintro ⟨#HR, #HL, ⟨HO, Hs, Hc⟩, Hback⟩
  ihave Hc := (chain_recv m c d u) $$ Hc
  icases Hc with ⟨HN, Hc⟩
  unfold needR
  icases HN with ⟨Hat, Hcr⟩
  iapply (wp_wait m true d u c 2 true p 6 (le_refl 6) (above_at h) hq₀ hN) $$ [HO Hat Hcr]
  · isplitr; · iexact HR
    isplitr; · iexact HL
    isplitl [HO]; · iexact HO
    isplitl [Hat]; · iexact Hat
    iexact Hcr
  iintro ⟨Hz, HP, HO⟩
  ihave HP := (recv_pay m c true d 2 u) $$ HP
  iapply hk
  iapply Hback
  isplitl [HO]; · iexact HO
  isplitl [Hs]; · iexact Hs
  iapply Hc
  isplitl [Hz]; · unfold doneR; iexact Hz
  iexact HP

/-- The end of a send of the reduce-scatter. -/
theorem step_doneF (j : Fin 3) (d : Bool) (u : Fin 4) (h : prog[p]? = some (j.val + 10, d, u))
    {q₀ : DmaSem sig} {sp' : Space} {s' : Shape} {e' : EltTy} {src : Memref sig .tc sp' s' e'} {dst : Memref sig .tc .vmem S512x1024 .bf16} {hsrc₀ hdst₀}
    {K : PUnit → Prog (TpuEff nD τ sig (Elt F) Λ₀ .tc) α} {Q : α → sProp 𝕄}
    (hN : dst.view.dmaCredit = NB := by rfl) (hq₀ : q₀ = semOf false false d j u := by rfl)
    (hk : St m c 4 (p + 1) ⊢ WP c (K ⟨⟩) Q) :
    St m c 4 p ⊢ WP c (.op (.waitDma2 q₀ src dst hsrc₀ hdst₀) K) Q := by
  have h0 : waitLv (j.val + 10) = 0 ∧ hop (j.val + 10) = none := by fin_cases j <;> exact ⟨rfl, rfl⟩
  refine (St_focus m c h).trans ?_
  unfold View
  rw [side_same m c h (by omega) (by omega) 4, dues_none c h h0.2]
  iintro ⟨#HR, #HL, ⟨HO, Hs, Hc⟩, Hback⟩
  ihave Hc := (chain_doneF m c d u j) $$ Hc
  icases Hc with ⟨HN, Hc⟩
  unfold doneS
  icases HN with ⟨Hat, Hcr⟩
  iapply (wp_wait m false d u c j false p 0 (le_refl 0) (h0.1 ▸ above_at h) hq₀ hN) $$ [HO Hat Hcr]
  · isplitr; · iexact HR
    isplitr; · iexact HL
    isplitl [HO]; · iexact HO
    isplitl [Hat]; · iexact Hat
    iexact Hcr
  iintro ⟨Hz, HP, HO⟩
  ihave HP := (send_pay m c false d j u) $$ HP
  iapply hk
  iapply Hback
  isplitl [HO]; · iexact HO
  isplitl [Hs]; · iexact Hs
  iapply Hc
  unfold finS
  isplitl [Hz]; · iexact Hz
  iexact HP

/-- The end of a send of the all-gather. -/
theorem step_doneA (j : Fin 3) (d : Bool) (u : Fin 4) (h : prog[p]? = some (j.val + 13, d, u))
    {q₀ : DmaSem sig} {sp' : Space} {s' : Shape} {e' : EltTy} {src : Memref sig .tc sp' s' e'} {dst : Memref sig .tc .hbm S512x1024 .bf16} {hsrc₀ hdst₀}
    {K : PUnit → Prog (TpuEff nD τ sig (Elt F) Λ₀ .tc) α} {Q : α → sProp 𝕄}
    (hN : dst.view.dmaCredit = NB := by rfl) (hq₀ : q₀ = semOf true false d j u := by rfl)
    (hk : St m c 4 (p + 1) ⊢ WP c (K ⟨⟩) Q) :
    St m c 4 p ⊢ WP c (.op (.waitDma2 q₀ src dst hsrc₀ hdst₀) K) Q := by
  have h0 : waitLv (j.val + 13) = 0 ∧ hop (j.val + 13) = none := by fin_cases j <;> exact ⟨rfl, rfl⟩
  refine (St_focus m c h).trans ?_
  unfold View
  rw [side_same m c h (by omega) (by omega) 4, dues_none c h h0.2]
  iintro ⟨#HR, #HL, ⟨HO, Hs, Hc⟩, Hback⟩
  ihave Hc := (chain_doneA m c d u j) $$ Hc
  icases Hc with ⟨HN, Hc⟩
  unfold doneS
  icases HN with ⟨Hat, Hcr⟩
  iapply (wp_wait m true d u c j false p 0 (le_refl 0) (h0.1 ▸ above_at h) hq₀ hN) $$ [HO Hat Hcr]
  · isplitr; · iexact HR
    isplitr; · iexact HL
    isplitl [HO]; · iexact HO
    isplitl [Hat]; · iexact Hat
    iexact Hcr
  iintro ⟨Hz, HP, HO⟩
  ihave HP := (send_pay m c true d j u) $$ HP
  iapply hk
  iapply Hback
  isplitl [HO]; · iexact HO
  isplitl [Hs]; · iexact Hs
  iapply Hc
  unfold finS
  isplitl [Hz]; · iexact Hz
  iexact HP

end Steps

end Cert.AllReduce
end
-- ==== Proof.Stage.lean ====
/-
The staging of the input: a half chunk of the argument copied into each staging buffer.
-/
module

public import proofs.«01_k».proof.Proof.Steps

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Stage
variable (c : Dev nD)

/-- What one staging copy counts. -/
def NX : ℕ := (xstM false).view.dmaCredit
theorem credit_x (d : Bool) : (xstM d).view.dmaCredit = NX := by cases d <;> rfl
theorem NX_pos : 0 < NX := View.dmaCredit_pos _ (by decide)

/-- A staging copy on its way, -/
def stFlight (d : Bool) (s : ℕ) : sProp 𝕄 :=
  Transfers.Flight EC (c : Thread nD τ) (.dma (stS d)) () NX
    iprop(staged m c d (s + 1) ∗ ((xM d c s).view.loc (c : Thread nD τ) ↦[(xM d c s).view.set]{half d} xArg m c))
/-- and the rest of the input. -/
def argRest (d : Bool) (s : ℕ) : sProp 𝕄 := ((c : Thread nD τ).loc main_arg0) ↦[Finset.univ \ (xM d c s).view.set]{half d} xArg m c

variable {α : Type}

theorem staged_any (d : Bool) (s : ℕ) : staged m c d s ⊢ iprop(∃ Y, owns (c : Thread nD τ) (xstM d) fullShare Y) := by
  cases s with
  | zero => exact Entails.refl _
  | succ s => unfold staged; iintro H; iexists _; iexact H

/-- What a staging copy leaves. -/
theorem stage_lands (d : Bool) (s : ℕ) (fd : Buf (Elt F) ((xstM d).view.loc (c : Thread nD τ))) :
    iprop(((xstM d).view.loc (c : Thread nD τ) ↦[(xstM d).view.set]{fullShare}
        ((xstM d).view.write (Elt F) fd (ReadAs.same.apply ((xM d c s).view.read (Elt F) (xArg m c))) Finset.univ))
      ∗ ((xM d c s).view.loc (c : Thread nD τ) ↦[(xM d c s).view.set]{half d} xArg m c))
    ⊢ iprop(staged m c d (s + 1) ∗ ((xM d c s).view.loc (c : Thread nD τ) ↦[(xM d c s).view.set]{half d} xArg m c)) := by
  iintro ⟨H, H'⟩
  isplitl [H]
  · unfold staged owns
    iexists _
    isplitr
    swap
    · iexact H
    ipureintro
    show (xstM d).view.read (Elt F) ((xstM d).view.write (Elt F) fd ((xM d c s).view.read (Elt F) (xArg m c)) Finset.univ) = _
    rw [View.read_write_univ]; rfl
  · iexact H'

/-- A half chunk of the input sent to its staging buffer. -/
theorem stage_start (d : Bool) (s : ℕ) {A : Memref sig .tc .hbm S8192x2048 .f32} {off : Fin 2 → ℕ} {inb : ∀ a, off a + S2048x1024.size a ≤ S8192x2048.size a} {hs}
    {X : Memref sig .tc .vmem S2048x1024 .f32} {q : DmaSem sig} {hsrc hdst hsem} {K : PUnit → Prog (TpuEff nD τ sig (Elt F) Λ₀ .tc) α} {Q : α → sProp 𝕄}
    (hA : A = argM) (hoff : off = xOff d c s) (hX : X = xstM d) (hq : q = stS d) :
    iprop(argPts m c (half d) ∗ semVal ((c : Thread nD τ), .dma (stS d)) 0 ∗ staged m c d s)
      ⊢ iprop((iprop(stFlight m c d s ∗ argRest m c d s) -∗ WP c (K ⟨⟩) Q)
        -∗ WP c (.op (.enqueueDma (A.slice (Rect.unit (s := S8192x2048) off S2048x1024.size inb) hs) (.here X) (.dma q) hsrc hdst hsem) K) Q) := by
  subst hA hoff hX hq
  iintro ⟨Ha, Hs, Hx⟩ Hk
  ihave Hx := (staged_any m c d s) $$ Hx
  unfold owns
  icases Hx with ⟨%Y, %fd, %hfd, Hx⟩
  ihave Ha := (show argPts m c (half d) ⊢ iprop(((xM d c s).view.loc (c : Thread nD τ) ↦[(xM d c s).view.set]{half d} xArg m c) ∗ argRest m c d s) from
    (pointsTo_split_subset (Finset.subset_univ (xM d c s).view.set)).1) $$ Ha
  icases Ha with ⟨Ha, Hr⟩
  iapply (Transfers.wp_dmaLocal EC 𝒱₀ (c : Thread nD τ) none (src := xM d c s) (dst := xstM d) (via := .same) (sm := .dma (stS d)) (fs := xArg m c) (fd := fd)
    (q := half d) (Sd := (xstM d).view.set) () NX (credit_x d) NX_pos (Finset.Subset.refl _)) $$ [Ha Hx Hs]
  · isplitl [Ha]; · iexact Ha
    isplitl [Hx]; · iexact Hx
    iexact Hs
  iintro Hf
  ihave Hf := (Transfers.Flight_mono EC (c : Thread nD τ)
    (D' := iprop(staged m c d (s + 1) ∗ ((xM d c s).view.loc (c : Thread nD τ) ↦[(xM d c s).view.set]{half d} xArg m c))) (stage_lands m c d s fd)) $$ Hf
  iapply Hk
  isplitl [Hf]; · unfold stFlight; iexact Hf
  iexact Hr

/-- The wait for it. -/
theorem stage_wait (d : Bool) (s p : ℕ) (hp : above 0 p = true) {sp' : Space} {s' : Shape} {e' : EltTy} {src : Memref sig .tc sp' s' e'}
    {X : Memref sig .tc .vmem S2048x1024 .f32} {q : DmaSem sig} {hsrc hdst} {K : PUnit → Prog (TpuEff nD τ sig (Elt F) Λ₀ .tc) α} {Q : α → sProp 𝕄}
    (hX : X = xstM d) (hq : q = stS d) :
    iprop(levAts L lv ∗ (∃ W, owes (c : Thread nD τ) (dues c p) W) ∗ stFlight m c d s ∗ argRest m c d s)
      ⊢ iprop((iprop((∃ W, owes (c : Thread nD τ) (dues c p) W) ∗ argPts m c (half d) ∗ semVal ((c : Thread nD τ), .dma (stS d)) 0 ∗ staged m c d (s + 1))
          -∗ WP c (K ⟨⟩) Q)
        -∗ WP c (.op (.waitDma2 q src X hsrc hdst) K) Q) := by
  subst hX hq
  iintro ⟨#HL, ⟨%W, HO⟩, Hf, Hr⟩ Hk
  unfold stFlight
  iapply (Transfers.wp_waitLocalO EC 𝒱₀ (c : Thread nD τ) none () (credit_x d)) $$ [Hf HO]
  · isplitl [Hf]; · iexact Hf
    isplitl [HO]; · iexact HO
    iapply (mayWait_dues c _ p 0 (lv_st c d).le hp); iexact HL
  iintro ⟨⟨Hx, Ha⟩, Hz, HO⟩
  iapply Hk
  isplitl [HO]; · iexists _; iexact HO
  isplitl [Ha Hr]
  · iapply (show iprop(((xM d c s).view.loc (c : Thread nD τ) ↦[(xM d c s).view.set]{half d} xArg m c) ∗ argRest m c d s) ⊢ argPts m c (half d) from
      (pointsTo_split_subset (Finset.subset_univ (xM d c s).view.set)).2)
    isplitl [Ha]; · iexact Ha
    iexact Hr
  isplitl [Hz]; · iexact Hz
  iexact Hx

theorem bigSep_bool {Φ : Bool → sProp 𝕄} : bigSep Finset.univ Φ = iprop(Φ true ∗ Φ false) := by
  rw [show (Finset.univ : Finset Bool) = insert true {false} from rfl, BI.bigSep_insert (by decide), BI.bigSep_singleton]; rfl

/-- Both staging buffers filled. -/
theorem step_stage {p s : ℕ} (hp : above 0 p = true) {A : Memref sig .tc .hbm S8192x2048 .f32}
    {off : Fin 2 → ℕ} {inb : ∀ a, off a + S2048x1024.size a ≤ S8192x2048.size a} {hs}
    {off' : Fin 2 → ℕ} {inb' : ∀ a, off' a + S2048x1024.size a ≤ S8192x2048.size a} {hs'}
    {X X' : Memref sig .tc .vmem S2048x1024 .f32} {q q' : DmaSem sig} {hsrc hdst hsem hsrc' hdst' hsem' h₁ h₂ h₁' h₂'}
    {K : PUnit → Prog (TpuEff nD τ sig (Elt F) Λ₀ .tc) α} {Q : α → sProp 𝕄}
    (hA : A = argM := by rfl) (hX : X = xstM false := by rfl) (hX' : X' = xstM true := by rfl) (hq : q = stS false := by rfl) (hq' : q' = stS true := by rfl)
    (hoff : off = xOff false c s := by clear * - c; revert c; decide +kernel) (hoff' : off' = xOff true c s := by clear * - c; revert c; decide +kernel)
    (hk : St m c (s + 1) p ⊢ WP c (K ⟨⟩) Q) :
    St m c s p ⊢ WP c (.op (.enqueueDma (A.slice (Rect.unit (s := S8192x2048) off S2048x1024.size inb) hs) (.here X) (.dma q) hsrc hdst hsem) fun _ =>
      .op (.enqueueDma (A.slice (Rect.unit (s := S8192x2048) off' S2048x1024.size inb') hs') (.here X') (.dma q') hsrc' hdst' hsem') fun _ =>
      .op (.waitDma2 q (A.slice (Rect.unit (s := S8192x2048) off S2048x1024.size inb) hs) X h₁ h₂) fun _ =>
      .op (.waitDma2 q' (A.slice (Rect.unit (s := S8192x2048) off' S2048x1024.size inb') hs') X' h₁' h₂') K) Q := by
  unfold St at hk
  unfold St
  rw [bigSep_bool] at hk ⊢
  unfold side at hk ⊢
  iintro ⟨#HR, #HL, HO, ⟨⟨Ha', Hs', Hf', Hx'⟩, ⟨Ha, Hs, Hf, Hx⟩⟩, HC⟩
  iapply (stage_start m c false s hA hoff hX hq) $$ [Ha Hs Hx]
  · isplitl [Ha]; · iexact Ha
    isplitl [Hs]; · iexact Hs
    iexact Hx
  iintro ⟨Hfl, Hr⟩
  iapply (stage_start m c true s hA hoff' hX' hq') $$ [Ha' Hs' Hx']
  · isplitl [Ha']; · iexact Ha'
    isplitl [Hs']; · iexact Hs'
    iexact Hx'
  iintro ⟨Hfl', Hr'⟩
  iapply (stage_wait m c false s p hp hX hq) $$ [HO Hfl Hr]
  · isplitr; · iexact HL
    isplitl [HO]; · iexact HO
    isplitl [Hfl]; · iexact Hfl
    iexact Hr
  iintro ⟨HO, Ha, Hs, Hx⟩
  iapply (stage_wait m c true s p hp hX' hq') $$ [HO Hfl' Hr']
  · isplitr; · iexact HL
    isplitl [HO]; · iexact HO
    isplitl [Hfl']; · iexact Hfl'
    iexact Hr'
  iintro ⟨HO, Ha', Hs', Hx'⟩
  iapply hk
  isplitr; · iexact HR
  isplitr; · iexact HL
  isplitl [HO]; · iexact HO
  isplitl [Ha Hs Hf Hx Ha' Hs' Hf' Hx']
  · isplitl [Ha' Hs' Hf' Hx']
    · isplitl [Ha']; · iexact Ha'
      isplitl [Hs']; · iexact Hs'
      isplitl [Hf']; · iexact Hf'
      iexact Hx'
    · isplitl [Ha]; · iexact Ha
      isplitl [Hs]; · iexact Hs
      isplitl [Hf]; · iexact Hf
      iexact Hx
  iexact HC

end Stage

end Cert.AllReduce
end
-- ==== Proof.Enter.lean ====
/-
The kernel's start: the barrier with both neighbours, from what a device is given to the state before the first step.
-/
module

public import proofs.«01_k».proof.Proof.Stage

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A hop of a chain: its ring, direction, place and band. -/
abbrev Hop : Type := Bool × Bool × Fin 3 × Fin 4

/-- Hops by chain, -/
def hopOf : Chain × Bool × Fin 3 ≃ Hop :=
  ⟨fun x => (x.2.1, x.1.1, x.2.2, x.1.2), fun y => ((y.2.1, y.2.2.2), y.1, y.2.2.1), fun _ => rfl, fun _ => rfl⟩
/-- and by direction. -/
def hopOfDir : Chain × Bool × Fin 3 ≃ Bool × Bool × Fin 4 × Fin 3 :=
  ⟨fun x => (x.1.1, x.2.1, x.1.2, x.2.2), fun y => ((y.1, y.2.2.1), y.2.1, y.2.2.2), fun _ => rfl, fun _ => rfl⟩

section Enter
variable (c : Dev nD)

/-- What a device has for a hop before the barrier. -/
def hopRes (x : Hop) : sProp 𝕄 :=
  iprop((dutyTok ER (sendC c x.1 x.2.1 x.2.2.1 x.2.2.2) 0 false ∗ dutyTok ER (recvC (fwd x.2.1 c) x.1 x.2.1 x.2.2.1 x.2.2.2) 0 false
      ∗ atPos ER (sendC c x.1 x.2.1 x.2.2.1 x.2.2.2) 0 ∅ 0)
    ∗ needR x.1 x.2.1 x.2.2.2 c x.2.2.1)

theorem rg_zero (k d : Bool) (u : Fin 4) :
    bigSep Finset.univ (fun j : Fin 3 => iprop(hopRes (F := F) c (k, d, j, u) ∗ pcAny k d (fwd d c) j.succ u)) ⊢ rg m k d u c 0 0 0 := by
  unfold rg
  refine (BI.bigSep_mono (Ψ := fun j : Fin 3 => iprop(needS (F := F) k d u c j ∗ needR k d u c j)) fun j _ => ?_).trans ?_
  · show iprop(hopRes (F := F) c (k, d, j, u) ∗ pcAny (F := F) k d (fwd d c) j.succ u) ⊢ iprop(needS (F := F) k d u c j ∗ needR (F := F) k d u c j)
    unfold hopRes needS
    iintro ⟨⟨⟨Ht, Ht', Hat⟩, HR⟩, HP⟩
    isplitr [HR]
    · isplitl [Ht]; · iexact Ht
      isplitl [Ht']; · iexact Ht'
      isplitl [HP]; · iexact HP
      iexact Hat
    iexact HR
  · refine (Entails.of_eq (BI.bigSep_sep' Finset.univ (fun j : Fin 3 => needS (F := F) k d u c j) (fun j : Fin 3 => needR (F := F) k d u c j))).trans ?_
    exact BI.sep_mono (Entails.of_eq (BI.bigSep_congr fun j _ => (if_neg (Nat.not_lt_zero _)).symm))
      (Entails.of_eq (BI.bigSep_congr fun j _ => (if_neg (Nat.not_lt_zero _)).symm))

theorem chain_zero (x : Chain) :
    iprop(bigSep Finset.univ (fun y : Bool × Fin 3 => iprop(hopRes (F := F) c (y.1, x.1, y.2, x.2) ∗ pcAny y.1 x.1 (fwd x.1 c) y.2.succ x.2)) ∗ held m c x.1 x.2 0)
      ⊢ chain m c x.1 x.2 0 := by
  rw [BI.bigSep_univ_prod, bigSep_bool]
  unfold chain
  iintro ⟨⟨Ht, Hf⟩, Hh⟩
  isplitl [Hf]; · iapply (rg_zero m c false x.1 x.2); iexact Hf
  isplitl [Ht]; · iapply (rg_zero m c true x.1 x.2); iexact Ht
  iexact Hh

theorem chains_zero :
    iprop((bigSep Finset.univ fun d => landing (F := F) d (fwd d c)) ∗ bigSep Finset.univ (hopRes (F := F) c) ∗ bigSep Finset.univ fun x : Chain => held m c x.1 x.2 0)
      ⊢ bigSep Finset.univ fun x : Chain => chain m c x.1 x.2 (phaseAt 0 x) := by
  have hl : (bigSep Finset.univ fun d => landing (F := F) d (fwd d c) : sProp 𝕄)
      = bigSep Finset.univ fun x : Chain => bigSep Finset.univ fun y : Bool × Fin 3 => pcAny (F := F) y.1 x.1 (fwd x.1 c) y.2.succ x.2 := by
    unfold landing
    rw [← BI.bigSep_univ_prod (fun z : Bool × Bool × Fin 4 × Fin 3 => pcAny (F := F) z.2.1 z.1 (fwd z.1 c) z.2.2.2.succ z.2.2.1),
      BI.bigSep_univ_equiv hopOfDir, BI.bigSep_univ_prod]
    rfl
  have hh : (bigSep Finset.univ (hopRes (F := F) c) : sProp 𝕄)
      = bigSep Finset.univ fun x : Chain => bigSep Finset.univ fun y : Bool × Fin 3 => hopRes (F := F) c (y.1, x.1, y.2, x.2) := by
    rw [BI.bigSep_univ_equiv hopOf, BI.bigSep_univ_prod]
    rfl
  rw [hl, hh]
  iintro ⟨Hl, Hh, Hc⟩
  ihave H := (show iprop((bigSep Finset.univ fun x : Chain => bigSep Finset.univ fun y : Bool × Fin 3 => hopRes (F := F) c (y.1, x.1, y.2, x.2))
      ∗ (bigSep Finset.univ fun x : Chain => bigSep Finset.univ fun y : Bool × Fin 3 => pcAny (F := F) y.1 x.1 (fwd x.1 c) y.2.succ x.2))
    ⊢ bigSep Finset.univ fun x : Chain => bigSep Finset.univ fun y : Bool × Fin 3 => iprop(hopRes (F := F) c (y.1, x.1, y.2, x.2) ∗ pcAny (F := F) y.1 x.1 (fwd x.1 c) y.2.succ x.2) from
      (Entails.of_eq (BI.bigSep_sep' _ _ _).symm).trans (BI.bigSep_mono fun x _ => Entails.of_eq (BI.bigSep_sep' _ _ _).symm)) $$ [Hh Hl]
  · isplitl [Hh]; · iexact Hh
    iexact Hl
  iapply (show iprop((bigSep Finset.univ fun x : Chain => bigSep Finset.univ fun y : Bool × Fin 3 => iprop(hopRes (F := F) c (y.1, x.1, y.2, x.2) ∗ pcAny (F := F) y.1 x.1 (fwd x.1 c) y.2.succ x.2))
      ∗ bigSep Finset.univ fun x : Chain => held m c x.1 x.2 0)
    ⊢ bigSep Finset.univ fun x : Chain => chain m c x.1 x.2 (phaseAt 0 x) from
      (Entails.of_eq (BI.bigSep_sep' _ _ _).symm).trans (BI.bigSep_mono fun x _ => chain_zero m c x))
  isplitl [H]; · iexact H
  iexact Hc

/-- What a device owes when the kernel starts: a unit to either neighbour's barrier, and its transfers. -/
def O₁ : CellTallies nD τ sig Unit := dues c 0 + tallyAt (barCell (bwd true c)) () 1
def O₀ : CellTallies nD τ sig Unit := O₁ c + tallyAt (barCell (bwd false c)) () 1

/-- A device's state when the kernel starts. -/
def Entry : sProp 𝕄 :=
  iprop(records m ∗ levAts L lv ∗ (∃ W, owes (c : Thread nD τ) (O₀ c) W)
    ∗ (dutyTok ER (barCell (bwd true c)) 0 true ∗ dutyTok ER (barCell (bwd false c)) 0 false)
    ∗ atPos ER (barCell c) 0 ∅ 0 ∗ cred (tallyAt (barCell c) () 2)
    ∗ (landing (F := F) true c ∗ landing (F := F) false c)
    ∗ bigSep Finset.univ (hopRes (F := F) c) ∗ (bigSep Finset.univ fun x : Chain => held m c x.1 x.2 0)
    ∗ bigSep Finset.univ (side m c 0 0))

theorem pay_bar (d : Bool) : landing (F := F) d c ⊢ (Rd m).payload (barCell (bwd d c)) 0 d := by rw [payload_bar, fwd_bwd]

/-- The barrier: either neighbour is handed the pieces it will write, and hands over those the device will write. -/
theorem step_enter {α : Type} {n n' : Dev nD} {s : Sem sig} {a a' b : ℤ} {K : PUnit → Prog (TpuEff nD τ sig (Elt F) Λ₀ .tc) α} {Q : α → sProp 𝕄}
    (hn : n = bwd false c := by clear * - c; revert c; decide +kernel) (hn' : n' = bwd true c := by clear * - c; revert c; decide +kernel) (hs : s = barS := by rfl)
    (ha : a = 1 := by rfl) (ha' : a' = 1 := by rfl) (hb : b = 2 := by rfl)
    (hk : St m c 0 0 ⊢ WP c (K ⟨⟩) (fun v => iprop(semVal (barCell c) 0 -∗ Q v))) :
    Entry m c ⊢ WP c (.op (.semSignal (n, .tc) s a) fun _ => .op (.semSignal (n', .tc) s a') fun _ => .op (.semWait s b) K) Q := by
  subst hn hn' hs ha ha' hb
  unfold Entry
  iintro ⟨#HR, #HL, ⟨%W, HO⟩, ⟨Htt, Htf⟩, Hat, Hcr, ⟨Hlt, Hlf⟩, Hh, Hc, Hs⟩
  ihave Hr := (records_bar m (bwd false c)) $$ HR
  icases Hr with ⟨%κ₁, #Hi₁, #Hr₁⟩
  ihave Hr := (records_bar m (bwd true c)) $$ HR
  icases Hr with ⟨%κ₂, #Hi₂, #Hr₂⟩
  ihave Hr := (records_bar m c) $$ HR
  icases Hr with ⟨%κ, #Hi, #Hr⟩
  unfold O₀
  iapply (Rounds.wp_signal 𝒱₀ ER (Rd m) (c : Thread nD τ) none (dst := (bwd false c : Thread nD τ)) (κ := κ₁)
      (d := false) (by rw [duties_bar]; exact Finset.mem_univ _) ((amount_bar m (bwd false c) false).trans (by decide)) () (O₁ c) rfl) $$ [HO Htf Hlf]
  · isplitr; · iexact Hi₁
    isplitl [HO]; · iexact HO
    isplitl [Htf]; · iexact Htf
    isplitl [Hlf]; · iapply (pay_bar m c false); iexact Hlf
    iexact Hr₁
  iintro HO
  unfold O₁
  iapply (Rounds.wp_signal 𝒱₀ ER (Rd m) (c : Thread nD τ) none (dst := (bwd true c : Thread nD τ)) (κ := κ₂)
      (d := true) (by rw [duties_bar]; exact Finset.mem_univ _) ((amount_bar m (bwd true c) true).trans (by decide)) () (dues c 0) rfl) $$ [HO Htt Hlt]
  · isplitr; · iexact Hi₂
    isplitl [HO]; · iexact HO
    isplitl [Htt]; · iexact Htt
    isplitl [Hlt]; · iapply (pay_bar m c true); iexact Hlt
    iexact Hr₂
  iintro HO
  iapply (Rounds.wp_wait_rest_token 𝒱₀ ER (Rd m) (c : Thread nD τ) none (κ := κ)
      (wpE_semWait_eq 𝒱₀ (c : Thread nD τ) none Set.univ) (Set.mem_univ _) () (O := dues c 0) (W := W) (R := 0) (m := 0) (T := ∅)
      (by rw [expect_bar])) $$ [Hcr HO Hat]
  · isplitr; · iexact Hi
    isplitl [Hcr]; · iexact Hcr
    isplitl [HO]; · iexact HO
    isplitr; · iapply (mayWait_dues c _ 0 0 (le_refl 0) (above_zero 0)); iexact HL
    iexact Hat
  iintro ⟨HO, Hat, -, Hpay⟩
  ihave Hp := (Entails.of_eq (rest_bar m c)) $$ Hpay
  imod (Rounds.cell_close ER (Rd m) (Set.mem_univ κ) (fun h => h) (R := 0 + 1) (duties_later m (barCell c))) $$ [Hat] with Hz
  · isplitr; · iexact Hi
    iexact Hat
  iapply (show iprop(WP c (K ⟨⟩) (fun v => iprop(semVal (barCell c) 0 -∗ Q v)) ∗ semVal (barCell c) 0) ⊢ WP c (K ⟨⟩) Q from
    (wp_frame_r frame _ _).trans (wp_mono frame _ _ fun v => BI.wand_elim (Entails.refl _)))
  isplitr [Hz]
  · iapply hk
    unfold St
    isplitr; · iexact HR
    isplitr; · iexact HL
    isplitl [HO]; · iexists _; iexact HO
    isplitl [Hs]; · iexact Hs
    iapply (chains_zero m c)
    isplitl [Hp]; · iexact Hp
    isplitl [Hh]; · iexact Hh
    iexact Hc
  iexact Hz

end Enter

end Cert.AllReduce
end
-- ==== Proof.Walk.lean ====
/-
The kernel's body, step by step.
-/
module

public import proofs.«01_k».proof.Proof.Enter

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (c : Dev nD)

/-- The return, after the last step. -/
theorem step_end {Q : PUnit → sProp 𝕄} (hk : St m c 4 128 ⊢ Q ⟨⟩) : St m c 4 128 ⊢ WP c (.ret ⟨⟩) Q := by
  have h : St m c 4 128 ⊢ iprop(|={Set.univ}=> Q ⟨⟩) := hk.trans fupd_intro
  exact h

set_option maxHeartbeats 1000000 in
/-- The kernel, from what the launch gives a device to the end of its last wait. -/
theorem walk {Q : PUnit → sProp 𝕄} (hk : St m c 4 128 ⊢ iprop(semVal (barCell c) 0 -∗ Q ⟨⟩)) :
    Entry m c ⊢ WP c (cc0_body argM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15) Q := by
  rw [cc0_body_eq_skeleton]
  unfold cc0_body_skel
  rw [k0_part67_eq_skeleton]
  unfold k0_part67_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel k0_part64_skel k0_part65_skel k0_part66_skel
  simp only [semSignalWord, semWaitWord, Prog.lift, Prog.bind_op, Prog.bind_ret, Prog.pure_eq_ret, wp_deviceId]
  refine step_enter m c (hk := ?_)
  refine step_stage m c rfl (hk := ?_)
  iterate 8 refine step_first m c _ _ rfl (hk := ?_)
  refine step_stage m c rfl (hk := ?_)
  iterate 8 refine step_acc m c 0 _ _ rfl (hk := ?_)
  refine step_stage m c rfl (hk := ?_)
  iterate 8 refine step_acc m c 1 _ _ rfl (hk := ?_)
  refine step_stage m c rfl (hk := ?_)
  iterate 8 refine step_last m c _ _ rfl (hk := ?_)
  iterate 4
    iterate 2 refine step_fin m c _ _ rfl (hk := ?_)
    iterate 2 refine step_copy m c _ _ rfl (hk := ?_)
    iterate 2 refine step_send m c _ _ rfl (hk := ?_)
  iterate 8 refine step_fwd m c 0 _ _ rfl (hk := ?_)
  iterate 8 refine step_fwd m c 1 _ _ rfl (hk := ?_)
  iterate 8 refine step_recv m c _ _ rfl (hk := ?_)
  iterate 8 refine step_doneF m c 0 _ _ rfl (hk := ?_)
  iterate 8 refine step_doneF m c 1 _ _ rfl (hk := ?_)
  iterate 8 refine step_doneF m c 2 _ _ rfl (hk := ?_)
  iterate 8 refine step_doneA m c 0 _ _ rfl (hk := ?_)
  iterate 8 refine step_doneA m c 1 _ _ rfl (hk := ?_)
  iterate 8 refine step_doneA m c 2 _ _ rfl (hk := ?_)
  exact step_end m c hk

end Cert.AllReduce
end
-- ==== Proof.Cover.lean ====
/-
The communication buffers and the result, whole and in pieces.
-/
module

public import proofs.«01_k».proof.Proof.State
public import Idealize.ShloMosaic.Lib.Pipeline.ValueKit.Geometry

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A buffer in pieces -/

section Pieces
variable {ℓ : Loc nD τ sig} {T : Type} [Fintype T] [DecidableEq T] {K : T → Finset (Idx ℓ)} {w : Idx ℓ → T}

theorem cover_eq (hK : ∀ t i, i ∈ K t ↔ w i = t) : (Finset.univ : Finset T).biUnion K = Finset.univ :=
  Finset.eq_univ_iff_forall.mpr fun i => Finset.mem_biUnion.mpr ⟨w i, Finset.mem_univ _, (hK _ _).mpr rfl⟩
theorem cover_disjoint (hK : ∀ t i, i ∈ K t ↔ w i = t) : ∀ t ∈ (Finset.univ : Finset T), ∀ t' ∈ (Finset.univ : Finset T),
    t ≠ t' → Disjoint (K t) (K t') := fun t _ t' _ h =>
  Finset.disjoint_left.mpr fun i hi hi' => h (((hK t i).mp hi).symm.trans ((hK t' i).mp hi'))

/-- A buffer whose elements are shared out among the pieces is the pieces; -/
theorem cover_split (hK : ∀ t i, i ∈ K t ↔ w i = t) (f : Buf (Elt F) ℓ) :
    (ℓ ↦{fullShare} f : sProp 𝕄) ⊢ bigSep Finset.univ fun t => ℓ ↦[K t]{fullShare} f := by
  refine Entails.of_eq ?_
  rw [← pointsTo_biUnion Finset.univ K (cover_disjoint hK), cover_eq hK]

/-- and the pieces, whatever each holds, are the buffer, with each piece's contents its own. -/
theorem cover_join (hK : ∀ t i, i ∈ K t ↔ w i = t) (R : T → Buf (Elt F) ℓ → Prop)
    (hR : ∀ t f g, (∀ i ∈ K t, g i = f i) → R t f → R t g) (f₀ : Buf (Elt F) ℓ) :
    (bigSep Finset.univ fun t => iprop(∃ f, ⌜R t f⌝ ∗ ℓ ↦[K t]{fullShare} f) : sProp 𝕄)
      ⊢ iprop(∃ g, ⌜∀ t, R t g⌝ ∗ ℓ ↦{fullShare} g) := by
  haveI : Nonempty (Buf (Elt F) ℓ) := ⟨f₀⟩
  iintro H
  ihave H1 := (BI.bigSep_exists_pi Finset.univ (fun (t : T) (f : Buf (Elt F) ℓ) => iprop(⌜R t f⌝ ∗ ℓ ↦[K t]{fullShare} f : sProp 𝕄))) $$ H
  icases H1 with ⟨%fs, H2⟩
  ihave H3 := (show (bigSep Finset.univ (fun t => iprop(⌜R t (fs t)⌝ ∗ ℓ ↦[K t]{fullShare} fs t)) : sProp 𝕄)
    ⊢ iprop(⌜∀ t ∈ Finset.univ, R t (fs t)⌝ ∗ bigSep Finset.univ fun t => ℓ ↦[K t]{fullShare} fs t) from bigSep_pure_sep _ _ _) $$ H2
  icases H3 with ⟨%hr, H4⟩
  ihave H5 := (pointsTo_biUnion_join Finset.univ K fs f₀ (cover_disjoint hK)) $$ H4
  icases H5 with ⟨%g, %hg, H6⟩
  iexists g
  isplitr
  · ipureintro; exact fun t => hR t (fs t) g (hg t (Finset.mem_univ t)) (hr t (Finset.mem_univ t))
  rw [cover_eq hK]; iexact H6
end Pieces

/-! ## The communication buffers and the result -/

/-- The slot and band an element of a communication buffer is in. -/
def rsW (i : S4x2048x1024.Idx) : Fin 4 × Fin 4 :=
  (⟨(i 0).val, (i 0).isLt⟩, ⟨(i 1).val / 512, by have : (i 1).val < 2048 := (i 1).isLt; omega⟩)
theorem rsW_iff (x : Fin 4 × Fin 4) (i : S4x2048x1024.Idx) : i ∈ (rsR x.1 x.2).set ↔ rsW i = x := by
  obtain ⟨j, u⟩ := x
  unfold rsR
  rw [Rect.mem_set_unit]
  have h0 : (i 0).val < 4 := (i 0).isLt
  have h1 : (i 1).val < 2048 := (i 1).isLt
  have h2 : (i 2).val < 1024 := (i 2).isLt
  constructor
  · intro h
    have a0 : j.val ≤ (i 0).val ∧ (i 0).val < j.val + 1 := h 0
    have a1 : 512 * u.val ≤ (i 1).val ∧ (i 1).val < 512 * u.val + 512 := h 1
    refine Prod.ext (Fin.ext ?_) (Fin.ext ?_)
    · show (i 0).val = j.val; omega
    · show (i 1).val / 512 = u.val; omega
  · intro h
    have e0 : (i 0).val = j.val := congrArg (fun x : Fin 4 × Fin 4 => x.1.val) h
    have e1 : (i 1).val / 512 = u.val := congrArg (fun x : Fin 4 × Fin 4 => x.2.val) h
    intro a; fin_cases a
    · show j.val ≤ (i 0).val ∧ (i 0).val < j.val + 1; omega
    · show 512 * u.val ≤ (i 1).val ∧ (i 1).val < 512 * u.val + 512; omega
    · show 0 ≤ (i 2).val ∧ (i 2).val < 0 + 1024; omega

/-- The direction, piece and band an element of the result is in. -/
def agW (c : Dev nD) (i : S8192x2048.Idx) : Bool × Fin 4 × Fin 4 :=
  let d : Bool := decide (1024 ≤ (i 1).val)
  (d, ⟨(cond d ((i 0).val / 2048 + 5 - c.val) (c.val + 5 - (i 0).val / 2048)) % 4, Nat.mod_lt _ (by decide)⟩,
    ⟨(i 0).val % 2048 / 512, by omega⟩)
theorem agW_iff (c : Dev nD) (x : Bool × Fin 4 × Fin 4) (i : S8192x2048.Idx) : i ∈ (agR x.1 c x.2.1.val x.2.2).set ↔ agW c i = x := by
  obtain ⟨d, j, u⟩ := x
  unfold agR
  rw [Rect.mem_set_unit]
  have h0 : (i 0).val < 8192 := (i 0).isLt
  have h1 : (i 1).val < 2048 := (i 1).isLt
  have hc : c.val < 4 := c.isLt
  have hj := j.isLt
  have hu := u.isLt
  constructor
  · intro h
    have a0 : 2048 * och d c j.val + 512 * u.val ≤ (i 0).val ∧ (i 0).val < 2048 * och d c j.val + 512 * u.val + 512 := h 0
    have a1 : cond d 1024 0 ≤ (i 1).val ∧ (i 1).val < cond d 1024 0 + 1024 := h 1
    unfold och at a0
    have hd : decide (1024 ≤ (i 1).val) = d := by cases d <;> simp only [cond_true, cond_false] at a1 <;> simp <;> omega
    refine Prod.ext hd (Prod.ext (Fin.ext ?_) (Fin.ext ?_))
    · show (cond (decide (1024 ≤ (i 1).val)) ((i 0).val / 2048 + 5 - c.val) (c.val + 5 - (i 0).val / 2048)) % 4 = j.val
      rw [hd]; cases d <;> simp only [cond_true, cond_false] at a0 ⊢ <;> omega
    · show (i 0).val % 2048 / 512 = u.val
      omega
  · intro h
    have hd : decide (1024 ≤ (i 1).val) = d := congrArg (fun x : Bool × Fin 4 × Fin 4 => x.1) h
    have e0 : (cond (decide (1024 ≤ (i 1).val)) ((i 0).val / 2048 + 5 - c.val) (c.val + 5 - (i 0).val / 2048)) % 4 = j.val :=
      congrArg (fun x : Bool × Fin 4 × Fin 4 => x.2.1.val) h
    have e1 : (i 0).val % 2048 / 512 = u.val := congrArg (fun x : Bool × Fin 4 × Fin 4 => x.2.2.val) h
    rw [hd] at e0
    intro a; fin_cases a
    · show 2048 * och d c j.val + 512 * u.val ≤ (i 0).val ∧ (i 0).val < 2048 * och d c j.val + 512 * u.val + 512
      unfold och
      cases d <;> simp only [cond_true, cond_false] at e0 ⊢ <;> omega
    · show cond d 1024 0 ≤ (i 1).val ∧ (i 1).val < cond d 1024 0 + 1024
      cases d <;> simp only [cond_true, cond_false, decide_eq_true_eq, decide_eq_false_iff_not] at hd ⊢ <;> omega

/-- A communication buffer, -/
def commRef (d : Bool) : Ref sig .tc := match d with | false => cc0_scratch0 | true => cc0_scratch1
def commL (d : Bool) (c : Dev nD) : Loc nD τ sig := (c : Thread nD τ).loc (commRef d)
/-- and the result. -/
abbrev outL (c : Dev nD) : Loc nD τ sig := (c : Thread nD τ).loc main_v1

/-- A piece of a buffer is a piece at some contents, -/
theorem piece_any (k d : Bool) (c : Dev nD) (j u : Fin 4) (f : Buf (Elt F) ((pieceM k d c j u).view.loc (c : Thread nD τ))) :
    ((pieceM k d c j u).view.loc (c : Thread nD τ) ↦[(pieceM k d c j u).view.set]{fullShare} f : sProp 𝕄) ⊢ pcAny (F := F) k d c j u := by
  unfold pcAny pc owns
  iintro H
  iexists (pieceM k d c j u).view.read (Elt F) f
  iexists f
  isplitr; · ipureintro; rfl
  iexact H
/-- and conversely. -/
theorem any_piece (k d : Bool) (c : Dev nD) (j u : Fin 4) :
    (pcAny (F := F) k d c j u : sProp 𝕄) ⊢ iprop(∃ f, ⌜True⌝ ∗ (pieceM k d c j u).view.loc (c : Thread nD τ) ↦[(pieceM k d c j u).view.set]{fullShare} f) := by
  unfold pcAny pc owns
  iintro ⟨%X, %f, %h, H⟩
  iexists f
  isplitr; · ipureintro; trivial
  iexact H

/-- A communication buffer's pieces share out its elements. -/
theorem rs_mem0 (x : Fin 4 × Fin 4) (i : S4x2048x1024.Idx) :
    i ∈ ((rsM false x.1 x.2).view.set : Finset S4x2048x1024.Idx) ↔ rsW i = x := by
  have h : ((rsM false x.1 x.2).view.set : Finset S4x2048x1024.Idx) = (rsR x.1 x.2).set :=
    (Memref.set_view_squeeze _ squeezes_S1x512x1024_S512x1024).trans (View.set_slice_whole cc0_scratch0 (rsR x.1 x.2))
  rw [h]; exact rsW_iff x i
theorem rs_mem1 (x : Fin 4 × Fin 4) (i : S4x2048x1024.Idx) :
    i ∈ ((rsM true x.1 x.2).view.set : Finset S4x2048x1024.Idx) ↔ rsW i = x := by
  have h : ((rsM true x.1 x.2).view.set : Finset S4x2048x1024.Idx) = (rsR x.1 x.2).set :=
    (Memref.set_view_squeeze _ squeezes_S1x512x1024_S512x1024).trans (View.set_slice_whole cc0_scratch1 (rsR x.1 x.2))
  rw [h]; exact rsW_iff x i
/-- The result's pieces share out its elements. -/
theorem ag_mem (c : Dev nD) (x : Bool × Fin 4 × Fin 4) (i : S8192x2048.Idx) :
    i ∈ ((agM x.1 c x.2.1.val x.2.2).view.set : Finset S8192x2048.Idx) ↔ agW c i = x := by
  have h : ((agM x.1 c x.2.1.val x.2.2).view.set : Finset S8192x2048.Idx) = (agR x.1 c x.2.1.val x.2.2).set := View.set_slice_whole _ _
  rw [h]; exact agW_iff c x i

theorem comm_split (d : Bool) (c : Dev nD) (f : Buf (Elt F) (commL d c)) :
    (commL d c ↦{fullShare} f : sProp 𝕄) ⊢ bigSep Finset.univ fun x : Fin 4 × Fin 4 => pcAny (F := F) false d c x.1 x.2 := by
  cases d
  · exact (cover_split (ℓ := commL false c) (K := fun x : Fin 4 × Fin 4 => (rsM false x.1 x.2).view.set) (w := rsW)
      rs_mem0 f).trans
      (bigSep_mono fun x _ => piece_any false false c x.1 x.2 f)
  · exact (cover_split (ℓ := commL true c) (K := fun x : Fin 4 × Fin 4 => (rsM true x.1 x.2).view.set) (w := rsW)
      rs_mem1 f).trans
      (bigSep_mono fun x _ => piece_any false true c x.1 x.2 f)

theorem comm_join (d : Bool) (c : Dev nD) :
    (bigSep Finset.univ fun x : Fin 4 × Fin 4 => pcAny (F := F) false d c x.1 x.2) ⊢ (iprop(∃ g, commL d c ↦{fullShare} g) : sProp 𝕄) := by
  have h : (iprop(∃ g, ⌜∀ x : Fin 4 × Fin 4, True⌝ ∗ commL d c ↦{fullShare} g) : sProp 𝕄) ⊢ iprop(∃ g, commL d c ↦{fullShare} g) := by
    iintro ⟨%g, -, H⟩
    iexists g; iexact H
  refine BIBase.Entails.trans ?_ h
  cases d
  · exact (bigSep_mono fun x _ => any_piece false false c x.1 x.2).trans
        (cover_join (ℓ := commL false c) (K := fun x : Fin 4 × Fin 4 => (rsM false x.1 x.2).view.set) (w := rsW)
        rs_mem0
        (fun _ _ => True) (fun _ _ _ _ _ => trivial) (fun _ => default))
  · exact (bigSep_mono fun x _ => any_piece false true c x.1 x.2).trans
        (cover_join (ℓ := commL true c) (K := fun x : Fin 4 × Fin 4 => (rsM true x.1 x.2).view.set) (w := rsW)
        rs_mem1
        (fun _ _ => True) (fun _ _ _ _ _ => trivial) (fun _ => default))

theorem out_split (c : Dev nD) (f : Buf (Elt F) (outL c)) :
    (outL c ↦{fullShare} f : sProp 𝕄) ⊢ bigSep Finset.univ fun x : Bool × Fin 4 × Fin 4 => pcAny (F := F) true x.1 c x.2.1 x.2.2 := by
  refine (cover_split (ℓ := outL c) (K := fun x : Bool × Fin 4 × Fin 4 => (agM x.1 c x.2.1.val x.2.2).view.set) (w := agW c)
    (ag_mem c) f).trans (bigSep_mono fun x _ => ?_)
  exact piece_any true x.1 c x.2.1 x.2.2 f

/-- The result holds band by band what is given. -/
def outIs (c : Dev nD) (V : Bool → Fin 4 → Fin 4 → S512x1024.Idx → Elt F .bf16) (g : Buf (Elt F) (outL c)) : Prop :=
  ∀ x : Bool × Fin 4 × Fin 4, (agM x.1 c x.2.1.val x.2.2).view.read (Elt F) g = V x.1 x.2.1 x.2.2

theorem out_join (c : Dev nD) (V : Bool → Fin 4 → Fin 4 → S512x1024.Idx → Elt F .bf16) :
    (bigSep Finset.univ fun x : Bool × Fin 4 × Fin 4 => pc (F := F) true x.1 c x.2.1 x.2.2 (V x.1 x.2.1 x.2.2))
      ⊢ (iprop(∃ g, ⌜outIs c V g⌝ ∗ outL c ↦{fullShare} g) : sProp 𝕄) :=
  cover_join (ℓ := outL c) (K := fun x : Bool × Fin 4 × Fin 4 => (agM x.1 c x.2.1.val x.2.2).view.set) (w := agW c)
    (ag_mem c)
    (fun x g => (agM x.1 c x.2.1.val x.2.2).view.read (Elt F) g = V x.1 x.2.1 x.2.2)
    (fun x f g h hf => (View.read_congr h).trans hf) (fun _ => default)

end Cert.AllReduce
end
-- ==== Proof.Exit.lean ====
/-
What a device holds when its kernel returns: its buffers whole again, its semaphores at zero, its result.
-/
module

public import proofs.«01_k».proof.Proof.Cover
public import proofs.«01_k».proof.Proof.Stage

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The transfers' semaphores -/

/-- The local copies' semaphores. -/
def locS (x : Bool × Bool) : DmaSem sig := cond x.1 (stS x.2) (outS x.2)
theorem locS_injective : Function.Injective locS := by decide +kernel
theorem sems_univ : (Finset.univ : Finset (DmaSem sig))
    = (Finset.univ.map ⟨semK, semK_injective⟩) ∪ (Finset.univ.map ⟨locS, locS_injective⟩) := by decide +kernel
theorem sems_disjoint : Disjoint (Finset.univ.map ⟨semK, semK_injective⟩ : Finset (DmaSem sig)) (Finset.univ.map ⟨locS, locS_injective⟩) := by
  decide +kernel

/-- A device's semaphores are the rings' and the local copies'. -/
theorem sems_split (Φ : DmaSem sig → sProp 𝕄) : bigSep Finset.univ Φ
    = iprop((bigSep Finset.univ fun x : Key => Φ (semK x)) ∗ (bigSep Finset.univ fun d => Φ (stS d)) ∗ bigSep Finset.univ fun d => Φ (outS d)) := by
  rw [sems_univ, BI.bigSep_union sems_disjoint, BI.bigSep_map, BI.bigSep_map]
  show BI.sep _ (bigSep Finset.univ fun i : Bool × Bool => Φ (locS i)) = _
  rw [BI.bigSep_univ_prod (fun i : Bool × Bool => Φ (locS i)), bigSep_bool (Φ := fun a => bigSep Finset.univ fun b => Φ (locS (a, b)))]
  rfl

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## A chain at its end -/

section ChainEnd
variable (c : Dev nD) (d : Bool) (u : Fin 4)

/-- A ring's cells, closed. -/
def ringSems (k : Bool) : sProp 𝕄 := bigSep Finset.univ fun y : Bool × Fin 3 => semVal (cellX c k y.1 d y.2 u) 0

theorem rg_done (k : Bool) {a b w : ℕ} (ha : 3 ≤ a) (hb : 3 ≤ b) (hw : 3 ≤ w) :
    rg m k d u c a b w ⊢ iprop(ringSems c d u k ∗ bigSep Finset.univ fun j : Fin 3 => pc k d c j.castSucc u (sentVal m k d u j.val c)) := by
  have hS : bigSep Finset.univ (rgS m k d u c a w) = bigSep Finset.univ fun j => finS m k d u c j :=
    BI.bigSep_congr fun j _ => by unfold rgS; rw [if_pos (by omega), if_pos (by omega)]
  have hR : bigSep Finset.univ (rgR (F := F) k d u c b) = bigSep Finset.univ fun j => doneR k d u c j :=
    BI.bigSep_congr fun j _ => by unfold rgR; rw [if_pos (by omega)]
  unfold rg ringSems
  rw [hS, hR, BI.bigSep_univ_prod, bigSep_bool]
  unfold finS doneR
  rw [BI.bigSep_sep']
  iintro ⟨⟨Hs, Hp⟩, Hr⟩
  isplitr [Hp]
  · isplitl [Hr]; · iexact Hr
    iexact Hs
  iexact Hp

theorem pc_any (k : Bool) (j : Fin 4) (X : S512x1024.Idx → Elt F .bf16) : pc k d c j u X ⊢ pcAny (F := F) k d c j u := by
  unfold pcAny
  iintro H; iexists X; iexact H

/-- What a chain leaves: its cells closed, its communication pieces, its pieces of the result at their values. -/
theorem chain_end : chain m c d u 16 ⊢ iprop((bigSep Finset.univ fun k => ringSems c d u k)
    ∗ (bigSep Finset.univ fun j : Fin 4 => pcAny (F := F) false d c j u)
    ∗ bigSep Finset.univ fun j : Fin 4 => pc true d c j u (agVal m d u j.val c)) := by
  unfold chain
  iintro ⟨Hf, Ht, Hh⟩
  ihave Hf := (rg_done m c d u false (by decide) (by decide) (by decide)) $$ Hf
  ihave Ht := (rg_done m c d u true (by decide) (by decide) (by decide)) $$ Ht
  ihave Hh := (show held m c d u 16 ⊢ iprop(pc false d c 3 u (finVal m d u c) ∗ pc true d c 3 u (agVal m d u 3 c)) from Entails.refl _) $$ Hh
  rw [bigSep_bool, bigSep_fin3, bigSep_fin3, bigSep_fin4, bigSep_fin4]
  icases Hf with ⟨Hfs, Hf0, Hf1, Hf2⟩
  icases Ht with ⟨Hts, Ht0, Ht1, Ht2⟩
  icases Hh with ⟨Hf3, Ht3⟩
  isplitl [Hfs Hts]
  · isplitl [Hts]; · iexact Hts
    iexact Hfs
  isplitl [Hf0 Hf1 Hf2 Hf3]
  · isplitl [Hf0]; · iapply (pc_any c d u false 0 _); iexact Hf0
    isplitl [Hf1]; · iapply (pc_any c d u false 1 _); iexact Hf1
    isplitl [Hf2]; · iapply (pc_any c d u false 2 _); iexact Hf2
    iapply (pc_any c d u false 3 _); iexact Hf3
  isplitl [Ht0]; · iexact Ht0
  isplitl [Ht1]; · iexact Ht1
  isplitl [Ht2]; · iexact Ht2
  iexact Ht3

end ChainEnd

/-! ## All chains at their ends -/

section End
variable (c : Dev nD)

def keyOfChain : Chain × Bool × Bool × Fin 3 ≃ Key :=
  ⟨fun x => (x.2.1, x.2.2.1, x.1.1, x.2.2.2, x.1.2), fun y => ((y.2.2.1, y.2.2.2.2), y.1, y.2.1, y.2.2.2.1), fun _ => rfl, fun _ => rfl⟩
def pieceOfChain : Chain × Fin 4 ≃ Bool × Fin 4 × Fin 4 :=
  ⟨fun x => (x.1.1, x.2, x.1.2), fun y => ((y.1, y.2.2), y.2.1), fun _ => rfl, fun _ => rfl⟩

theorem keys_by_chain (Φ : Key → sProp 𝕄) : bigSep Finset.univ Φ
    = bigSep Finset.univ fun x : Chain => bigSep Finset.univ fun k : Bool => bigSep Finset.univ fun y : Bool × Fin 3 => Φ (k, y.1, x.1, y.2, x.2) := by
  rw [BI.bigSep_univ_equiv keyOfChain, BI.bigSep_univ_prod]
  exact BI.bigSep_congr fun x _ => by rw [BI.bigSep_univ_prod]; rfl
theorem pieces_by_chain (Φ : Bool × Fin 4 × Fin 4 → sProp 𝕄) : bigSep Finset.univ Φ
    = bigSep Finset.univ fun x : Chain => bigSep Finset.univ fun j : Fin 4 => Φ (x.1, j, x.2) := by
  rw [BI.bigSep_univ_equiv pieceOfChain, BI.bigSep_univ_prod]
  rfl

theorem chains_end : (bigSep Finset.univ fun x : Chain => chain m c x.1 x.2 (phaseAt 128 x))
    ⊢ iprop((bigSep Finset.univ fun x : Key => semVal ((c : Thread nD τ), .dma (semK x)) 0)
      ∗ (bigSep Finset.univ fun x : Bool × Fin 4 × Fin 4 => pcAny (F := F) false x.1 c x.2.1 x.2.2)
      ∗ bigSep Finset.univ fun x : Bool × Fin 4 × Fin 4 => pc true x.1 c x.2.1 x.2.2 (agVal m x.1 x.2.2 x.2.1.val c)) := by
  rw [keys_by_chain, pieces_by_chain, pieces_by_chain]
  refine (BI.bigSep_mono (Ψ := fun x : Chain => iprop((bigSep Finset.univ fun k => ringSems (F := F) c x.1 x.2 k)
    ∗ (bigSep Finset.univ fun j : Fin 4 => pcAny (F := F) false x.1 c j x.2)
    ∗ bigSep Finset.univ fun j : Fin 4 => pc true x.1 c j x.2 (agVal m x.1 x.2 j.val c))) fun x _ => ?_).trans ?_
  · show chain m c x.1 x.2 (phaseAt 128 x) ⊢ _
    rw [phase_end]; exact chain_end m c x.1 x.2
  · rw [BI.bigSep_sep', BI.bigSep_sep']; exact Entails.refl _

/-- What a device holds when its kernel returns; the result's pieces, at their values, make it whole. -/
def Final : sProp 𝕄 :=
  iprop(bigSep Finset.univ (side m c 4 128) ∗ (bigSep Finset.univ fun x : Chain => chain m c x.1 x.2 (phaseAt 128 x)) ∗ semVal (barCell c) 0)

/-- A device's result, band by band. -/
def resIs (g : Buf (Elt F) (outL c)) : Prop := outIs c (fun d j u => agVal m d u j.val c) g

theorem busy_end : ∀ d, busy d 128 = false := by decide +kernel

theorem side_end (d : Bool) : side m c 4 128 d ⊢ iprop(argPts m c (half d) ∗ semVal ((c : Thread nD τ), .dma (stS d)) 0
    ∗ semVal ((c : Thread nD τ), .dma (outS d)) 0 ∗ ∃ f : Buf (Elt F) ((xstM d).view.loc (c : Thread nD τ)), (xstM d).view.loc (c : Thread nD τ) ↦[(xstM d).view.set]{fullShare} f) := by
  unfold side outFree
  rw [busy_end, if_neg Bool.false_ne_true]
  iintro ⟨Ha, Hs, Ho, Hx⟩
  isplitl [Ha]; · iexact Ha
  isplitl [Hs]; · iexact Hs
  isplitl [Ho]; · iexact Ho
  ihave Hx := (staged_any m c d 4) $$ Hx
  unfold owns
  icases Hx with ⟨%Y, %f, %h, Hx⟩
  iexists f; iexact Hx

theorem final_end : Final m c ⊢ iprop(semVal (barCell c) 0 ∗ argPts m c fullShare ∗ (∃ g, ⌜resIs m c g⌝ ∗ outL c ↦{fullShare} g)
    ∗ (bigSep Finset.univ fun q : DmaSem sig => semVal ((c : Thread nD τ), .dma q) 0)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)) := by
  unfold Final
  rw [sems_split, bigSep_bool, bigSep_bool, bigSep_bool]
  iintro ⟨⟨Hst, Hsf⟩, Hc, Hb⟩
  ihave Hst := (side_end m c true) $$ Hst
  ihave Hsf := (side_end m c false) $$ Hsf
  ihave Hc := (chains_end m c) $$ Hc
  icases Hst with ⟨Hat, Hst, Hot, Hxt⟩
  icases Hsf with ⟨Haf, Hsf, Hof, Hxf⟩
  icases Hc with ⟨Hk, Hcm, Hout⟩
  ihave Hcm := (show (bigSep Finset.univ fun x : Bool × Fin 4 × Fin 4 => pcAny (F := F) false x.1 c x.2.1 x.2.2)
    ⊢ iprop((∃ g, commL true c ↦{fullShare} g) ∗ ∃ g, commL false c ↦{fullShare} g) from by
      rw [BI.bigSep_univ_prod, bigSep_bool]; exact BI.sep_mono (comm_join true c) (comm_join false c)) $$ Hcm
  icases Hcm with ⟨Hct, Hcf⟩
  isplitl [Hb]; · iexact Hb
  isplitl [Hat Haf]
  · iapply (show iprop(argPts m c fullShare.left ∗ argPts m c fullShare.right) ⊢ argPts m c fullShare from
      (pointsTo_share (PosShare.mem_left_op_right fullShare)).2)
    isplitl [Haf]; · iexact Haf
    iexact Hat
  isplitl [Hout]; · iapply (out_join c fun d j u => agVal m d u j.val c); iexact Hout
  isplitl [Hk Hst Hsf Hot Hof]
  · isplitl [Hk]; · iexact Hk
    isplitl [Hst Hsf]
    · isplitl [Hst]; · iexact Hst
      iexact Hsf
    isplitl [Hot]; · iexact Hot
    iexact Hof
  isplitl [Hcf]; · iexact Hcf
  isplitl [Hct]; · iexact Hct
  isplitl [Hxf]
  · icases Hxf with ⟨%f, Hx⟩
    iexists f
    iapply (show ((xstM false).view.loc (c : Thread nD τ) ↦[(xstM false).view.set]{fullShare} f : sProp 𝕄) ⊢ (((c : Thread nD τ).loc cc0_scratch2) ↦{fullShare} f : sProp 𝕄)
      from Entails.of_eq (by rw [show (xstM false).view.set = Finset.univ from View.set_whole _]; rfl))
    iexact Hx
  · icases Hxt with ⟨%f, Hx⟩
    iexists f
    iapply (show ((xstM true).view.loc (c : Thread nD τ) ↦[(xstM true).view.set]{fullShare} f : sProp 𝕄) ⊢ (((c : Thread nD τ).loc cc0_scratch3) ↦{fullShare} f : sProp 𝕄)
      from Entails.of_eq (by rw [show (xstM true).view.set = Finset.univ from View.set_whole _]; rfl))
    iexact Hx

end End

end Cert.AllReduce
end
-- ==== Proof.Deal.lean ====
/-
The launch's ghost state: every cell's invariant allocated, the tokens dealt to the devices that pay.
-/
module

public import proofs.«01_k».proof.Proof.Exit
public import proofs.«01_k».proof.Proof.Enter

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Sums over optional keys and over hops -/

theorem bigSep_option (Φ : Option Key → sProp 𝕄) :
    bigSep Finset.univ Φ = iprop(Φ none ∗ bigSep Finset.univ fun x : Key => Φ (some x)) := by
  rw [show (Finset.univ : Finset (Option Key)) = insert none (Finset.univ.map Function.Embedding.some) from by
    ext x; cases x <;> simp, BI.bigSep_insert (by simp), BI.bigSep_map]
  rfl

/-- A hop and a side of it, as a key, -/
def keyOfHop : Bool × Hop ≃ Key :=
  ⟨fun x => (x.2.1, x.1, x.2.2.1, x.2.2.2.1, x.2.2.2.2), fun y => (y.2.1, y.1, y.2.2.1, y.2.2.2.1, y.2.2.2.2), fun _ => rfl, fun _ => rfl⟩
/-- and, with the device the hop starts from, as the cell it pays: the receive side is the next device's. -/
def cellOfHop : Bool × Dev nD × Hop ≃ Dev nD × Key :=
  ⟨fun x => (cond x.1 (fwd x.2.2.2.1 x.2.1) x.2.1, keyOfHop (x.1, x.2.2)),
   fun y => (y.2.2.1, cond y.2.2.1 (bwd y.2.2.2.1 y.1) y.1, (keyOfHop.symm y.2).2),
   fun x => by
     obtain ⟨b, c, h⟩ := x
     cases b
     · rfl
     · show (true, bwd h.2.1 (fwd h.2.1 c), h) = _; rw [bwd_fwd],
   fun y => by
     obtain ⟨c, k, b, d, j, u⟩ := y
     cases b
     · rfl
     · show (fwd d (bwd d c), (k, true, d, j, u)) = _; rw [fwd_bwd]⟩

theorem keys_by_hop (Φ : Key → sProp 𝕄) : bigSep Finset.univ Φ
    = iprop((bigSep Finset.univ fun x : Hop => Φ (keyOfHop (true, x))) ∗ bigSep Finset.univ fun x : Hop => Φ (keyOfHop (false, x))) := by
  rw [BI.bigSep_univ_equiv keyOfHop, BI.bigSep_univ_prod, bigSep_bool]
theorem cells_by_hop (Φ : Dev nD → Key → sProp 𝕄) : (bigSep Finset.univ fun c => bigSep Finset.univ (Φ c))
    = iprop((bigSep Finset.univ fun c => bigSep Finset.univ fun x : Hop => Φ (fwd x.2.1 c) (keyOfHop (true, x)))
      ∗ bigSep Finset.univ fun c => bigSep Finset.univ fun x : Hop => Φ c (keyOfHop (false, x))) := by
  rw [← BI.bigSep_univ_prod (fun y : Dev nD × Key => Φ y.1 y.2), BI.bigSep_univ_equiv cellOfHop, BI.bigSep_univ_prod, bigSep_bool,
    BI.bigSep_univ_prod, BI.bigSep_univ_prod]
  rfl

/-! ## The cells and the tokens minted for them -/

theorem osem_injective : Function.Injective osem := by
  rintro (_ | x) (_ | y) h
  · rfl
  · cases h
  · cases h
  · exact congrArg some (semK_injective (SemLoc.dma.inj h))
theorem kcell_injective : Function.Injective kcell := by
  rintro ⟨c, k⟩ ⟨c', k'⟩ h
  have h1 : c = c' := congrArg (fun g : GSem nD τ sig => g.1.1) h
  exact Prod.ext h1 (osem_injective (congrArg Prod.snd h))

def ringCells : Finset (GSem nD τ sig) := Finset.univ.map ⟨kcell, kcell_injective⟩
def tokOf (x : (Dev nD × Option Key) × Bool) : GSem nD τ sig × ℕ × Bool := (kcell x.1, 0, x.2)
theorem tokOf_injective : Function.Injective tokOf := fun x y h =>
  Prod.ext (kcell_injective (congrArg Prod.fst h)) (congrArg (fun z : GSem nD τ sig × ℕ × Bool => z.2.2) h)
def ringToks : Finset (GSem nD τ sig × ℕ × Bool) := Finset.univ.map ⟨tokOf, tokOf_injective⟩

/-- The ghost state the launch starts from. -/
def u₀ : UU := (initOf (Pipeline.cells cfgs cellOf_inj) (Pipeline.launchToks cfgs cellOf_inj), (initOf ringCells ringToks, 1))

/-- The tokens of a device's own cells. -/
def toks (c : Dev nD) : sProp 𝕄 := bigSep Finset.univ fun k : Option Key => bigSep Finset.univ fun d => dutyTok ER (kcell (c, k)) 0 d
/-- A device's positions, one per cell. -/
def posns (c : Dev nD) : sProp 𝕄 := bigSep Finset.univ fun k : Option Key => atPos ER (kcell (c, k)) 0 ∅ 0
def marks (c : Dev nD) : sProp 𝕄 := bigSep Finset.univ fun k : Option Key => reached ER (kcell (c, k)) 0

/-- What the launch's ghost state gives a device. -/
def G (c : Dev nD) : sProp 𝕄 :=
  iprop((bigSep Finset.univ fun k : Option Key => roundState ER (Rd m) (kcell (c, k)) 0) ∗ marks c ∗ posns c ∗ toks c)

theorem fund_ring : BI.own (ER (initOf ringCells ringToks)) ⊢ (|==> bigSep Finset.univ (G m) : sProp 𝕄) := by
  have hX (Φ : GSem nD τ sig → sProp 𝕄) : bigSep ringCells Φ
      = bigSep Finset.univ fun c : Dev nD => bigSep Finset.univ fun k : Option Key => Φ (kcell (c, k)) := by
    unfold ringCells; rw [BI.bigSep_map, BI.bigSep_univ_prod]; rfl
  have hT : bigSep ringToks (fun x => (dutyTok ER x.1 x.2.1 x.2.2 : sProp 𝕄)) = bigSep Finset.univ fun c : Dev nD => toks c := by
    unfold ringToks toks; rw [BI.bigSep_map, BI.bigSep_univ_prod, BI.bigSep_univ_prod]; rfl
  have hG : bigSep Finset.univ (G m) = iprop((bigSep Finset.univ fun c : Dev nD => bigSep Finset.univ fun k : Option Key => roundState ER (Rd m) (kcell (c, k)) 0)
      ∗ (bigSep Finset.univ fun c => marks (F := F) c) ∗ (bigSep Finset.univ fun c => posns (F := F) c) ∗ bigSep Finset.univ fun c => toks (F := F) c) := by
    unfold G; rw [BI.bigSep_sep', BI.bigSep_sep', BI.bigSep_sep']
  rw [hG]
  have h := Rounds.fund ER (Rd m) ringCells ringToks
  rw [hX, hX, hX, hT] at h
  exact h

/-! ## Every cell's invariant, and the tokens dealt around the rings -/

abbrev osemD (q : DmaSem sig) : SemLoc sig := .dma q
theorem ownSemFacts : Pipeline.OwnSemFacts cfg0.spec osemD :=
  ⟨by decide +kernel, fun a b h => SemLoc.dma.inj h, fun _ w => w.elim0⟩

theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

abbrev own0 (c : Dev nD) : sProp 𝕄 := Pipeline.ownSems0 (Ix := Unit) (Name := ℕ) (U := UU) (Lvl := ℕ) (Val := Elt F) (τ := τ) osemD c
theorem own0_eq (c : Dev nD) : own0 (F := F) c = bigSep Finset.univ fun q : DmaSem sig => semVal ((c : Thread nD τ), .dma q) 0 := rfl

/-- A device's local copies' semaphores. -/
def locals (c : Dev nD) : sProp 𝕄 :=
  iprop((bigSep Finset.univ fun d => semVal ((c : Thread nD τ), .dma (stS d)) 0) ∗ bigSep Finset.univ fun d => semVal ((c : Thread nD τ), .dma (outS d)) 0)

theorem sems0_eq (c : Dev nD) : iprop(own0 (F := F) c ∗ unscopedSems0 c)
    ⊢ iprop((bigSep Finset.univ fun k : Option Key => semVal (kcell (c, k)) 0) ∗ locals (F := F) c) := by
  rw [own0_eq, sems_split, unscopedSems0_eq, bigSep_option]
  unfold locals
  iintro ⟨⟨HK, HL⟩, HB⟩
  isplitr [HL]
  · isplitl [HB]; · iexact HB
    iexact HK
  iexact HL

theorem core_alloc (c : Dev nD) : iprop(own0 (F := F) c ∗ unscopedSems0 c ∗ G m c)
    ⊢ |={Set.univ}=> iprop((bigSep Finset.univ fun k : Option Key => iprop((∃ κ : ℕ, cellInv ER (Rd m) κ (kcell (c, k))) ∗ reached ER (kcell (c, k)) 0))
        ∗ posns (F := F) c ∗ toks (F := F) c ∗ locals (F := F) c) := by
  unfold G
  iintro ⟨Hos, Hus, Hst, Hm, Hat, Htok⟩
  ihave Hv := (sems0_eq (F := F) c) $$ [Hos Hus]
  · isplitl [Hos]; · iexact Hos
    iexact Hus
  icases Hv with ⟨Hv, Hl⟩
  imod (show iprop((bigSep Finset.univ fun k : Option Key => semVal (kcell (c, k)) 0) ∗ bigSep Finset.univ fun k : Option Key => roundState ER (Rd m) (kcell (c, k)) 0)
      ⊢ (|={Set.univ}=> bigSep Finset.univ fun k : Option Key => iprop(∃ κ : ℕ, cellInv ER (Rd m) κ (kcell (c, k))) : sProp 𝕄) from by
        rw [← BI.bigSep_sep']
        exact (BI.bigSep_mono fun k _ => (Rounds.body_intro ER (Rd m) (kcell (c, k))).trans inv_alloc).trans (bigSep_fupd _ _)) $$ [Hv Hst] with Hinv
  · isplitl [Hv]; · iexact Hv
    iexact Hst
  imodintro
  isplitl [Hinv Hm]
  · iapply (show iprop((bigSep Finset.univ fun k : Option Key => iprop(∃ κ : ℕ, cellInv ER (Rd m) κ (kcell (c, k)))) ∗ marks (F := F) c)
      ⊢ bigSep Finset.univ fun k : Option Key => iprop((∃ κ : ℕ, cellInv ER (Rd m) κ (kcell (c, k))) ∗ reached ER (kcell (c, k)) 0) from
        Entails.of_eq (BI.bigSep_sep' _ _ _).symm)
    isplitl [Hinv]; · iexact Hinv
    iexact Hm
  isplitl [Hat]; · iexact Hat
  isplitl [Htok]; · iexact Htok
  iexact Hl

/-- A device's tokens: those of the duties it pays. -/
def payToks (c : Dev nD) : sProp 𝕄 :=
  iprop((dutyTok ER (barCell (bwd true c)) 0 true ∗ dutyTok ER (barCell (bwd false c)) 0 false)
    ∗ (bigSep Finset.univ fun x : Hop => dutyTok ER (sendC c x.1 x.2.1 x.2.2.1 x.2.2.2) 0 false)
    ∗ bigSep Finset.univ fun x : Hop => dutyTok ER (recvC (fwd x.2.1 c) x.1 x.2.1 x.2.2.1 x.2.2.2) 0 false)

theorem toks_around : (bigSep Finset.univ fun c : Dev nD => toks (F := F) c) ⊢ bigSep Finset.univ fun c : Dev nD => payToks (F := F) c := by
  have h1 : (bigSep Finset.univ fun c : Dev nD => toks (F := F) c)
      = iprop(((bigSep Finset.univ fun c : Dev nD => dutyTok ER (barCell c) 0 true) ∗ (bigSep Finset.univ fun c : Dev nD => dutyTok ER (barCell c) 0 false))
        ∗ (bigSep Finset.univ fun c : Dev nD => bigSep Finset.univ fun x : Key => dutyTok ER (kcell (c, some x)) 0 true)
        ∗ bigSep Finset.univ fun c : Dev nD => bigSep Finset.univ fun x : Key => dutyTok ER (kcell (c, some x)) 0 false) := by
    rw [← BI.bigSep_sep', ← BI.bigSep_sep', ← BI.bigSep_sep']
    refine BI.bigSep_congr fun c _ => ?_
    unfold toks
    rw [bigSep_option, bigSep_bool, ← BI.bigSep_sep']
    refine congrArg (BI.sep _) (BI.bigSep_congr fun x _ => ?_)
    exact bigSep_bool
  have h2 : (bigSep Finset.univ fun c : Dev nD => payToks (F := F) c)
      = iprop(((bigSep Finset.univ fun c : Dev nD => dutyTok ER (barCell (bwd true c)) 0 true) ∗ (bigSep Finset.univ fun c : Dev nD => dutyTok ER (barCell (bwd false c)) 0 false))
        ∗ (bigSep Finset.univ fun c : Dev nD => bigSep Finset.univ fun x : Hop => dutyTok ER (sendC c x.1 x.2.1 x.2.2.1 x.2.2.2) 0 false)
        ∗ bigSep Finset.univ fun c : Dev nD => bigSep Finset.univ fun x : Hop => dutyTok ER (recvC (fwd x.2.1 c) x.1 x.2.1 x.2.2.1 x.2.2.2) 0 false) := by
    unfold payToks
    rw [BI.bigSep_sep', BI.bigSep_sep', BI.bigSep_sep']
  rw [h1, h2, cells_by_hop (fun c x => dutyTok ER (kcell (c, some x)) 0 false),
    BI.bigSep_univ_equiv (ring true).symm (fun c : Dev nD => (dutyTok ER (barCell c) 0 true : sProp 𝕄)),
    BI.bigSep_univ_equiv (ring false).symm (fun c : Dev nD => (dutyTok ER (barCell c) 0 false : sProp 𝕄))]
  iintro ⟨⟨Ht, Hf⟩, -, Hr, Hs⟩
  isplitl [Ht Hf]
  · isplitl [Ht]; · iexact Ht
    iexact Hf
  isplitl [Hs]; · iexact Hs
  iexact Hr

/-- What a device starts with, beside its buffers, its credit and its dues. -/
def G' (c : Dev nD) : sProp 𝕄 := iprop(records m ∗ posns (F := F) c ∗ payToks (F := F) c ∗ locals (F := F) c)

theorem deal_all {Φ Ψ : Dev nD → sProp 𝕄} {R : sProp 𝕄} [BI.Persistent R] (h : ∀ c, iprop(R ∗ Φ c) ⊢ Ψ c) :
    iprop(R ∗ bigSep Finset.univ Φ) ⊢ bigSep Finset.univ Ψ :=
  (sep_mono_left (BI.bigSep_of_persistent Finset.univ R)).trans (by rw [← BI.bigSep_sep']; exact BI.bigSep_mono fun c _ => h c)

theorem regroup : (bigSep Finset.univ fun c : Dev nD =>
      iprop((bigSep Finset.univ fun k : Option Key => iprop((∃ κ : ℕ, cellInv ER (Rd m) κ (kcell (c, k))) ∗ reached ER (kcell (c, k)) 0))
        ∗ posns (F := F) c ∗ toks (F := F) c ∗ locals (F := F) c))
    ⊢ bigSep Finset.univ (G' m) := by
  rw [BI.bigSep_sep', BI.bigSep_sep', BI.bigSep_sep',
    ← BI.bigSep_univ_prod (fun x : Dev nD × Option Key => iprop((∃ κ : ℕ, cellInv ER (Rd m) κ (kcell x)) ∗ reached ER (kcell x) 0 : sProp 𝕄))]
  haveI : DecidableEq (Dev nD × Option Key) := Classical.decEq _
  iintro ⟨HI, Hat, Htok, Hl⟩
  ihave HR := (show (bigSep Finset.univ fun x : Dev nD × Option Key => iprop((∃ κ : ℕ, cellInv ER (Rd m) κ (kcell x)) ∗ reached ER (kcell x) 0))
      ⊢ records (F := F) m from
    (BI.bigSep_mono fun x _ => show iprop((∃ κ : ℕ, cellInv ER (Rd m) κ (kcell x)) ∗ reached ER (kcell x) 0)
        ⊢ iprop(∃ κ : ℕ, cellInv ER (Rd m) κ (kcell x) ∗ reached ER (kcell x) 0) from by
          iintro ⟨⟨%κ, H⟩, Hr⟩; iexists κ; isplitl [H]; · iexact H
          iexact Hr).trans
      (BI.bigSep_exists_pi Finset.univ fun (x : Dev nD × Option Key) (κ : ℕ) => iprop(cellInv ER (Rd m) κ (kcell x) ∗ reached ER (kcell x) 0))) $$ HI
  ihave Htk := (toks_around (F := F)) $$ Htok
  iapply (deal_all (R := records (F := F) m) (Φ := fun c => iprop(posns (F := F) c ∗ payToks (F := F) c ∗ locals (F := F) c)) (Ψ := G' m) fun c => Entails.refl _)
  isplitl [HR]; · iexact HR
  iapply (show iprop((bigSep Finset.univ fun c => posns (F := F) c) ∗ (bigSep Finset.univ fun c => payToks (F := F) c) ∗ bigSep Finset.univ fun c => locals (F := F) c)
    ⊢ bigSep Finset.univ fun c => iprop(posns (F := F) c ∗ payToks (F := F) c ∗ locals (F := F) c) from by
      rw [BI.bigSep_sep', BI.bigSep_sep'])
  isplitl [Hat]; · iexact Hat
  isplitl [Htk]; · iexact Htk
  iexact Hl

theorem glob : (bigSep Finset.univ fun c => iprop(own0 (F := F) c ∗ unscopedSems0 c ∗ G m c)) ⊢ |={Set.univ}=> bigSep Finset.univ (G' m) :=
  ((BI.bigSep_mono fun c _ => core_alloc m c).trans (bigSep_fupd _ _)).trans (BI.fupd_mono (regroup m))

end Cert.AllReduce
end
-- ==== Proof.Credit.lean ====
/-
What the devices owe each cell when the kernel starts, and the credit the launch gives for it.
-/
module

public import proofs.«01_k».proof.Proof.Deal

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What is owed to each cell -/

/-- Whether a step starts a given hop. -/
def starts (x : Hop) (st : ℕ × Chain) : Bool := decide (hop st.1 = some (x.1, x.2.2.1) ∧ st.2 = (x.2.1, x.2.2.2))
/-- Every hop is started once. -/
theorem starts_once : ∀ x : Hop, (prog.filter (starts x)).length = 1 := by decide +kernel

theorem recv_eq_iff {a b : Dev nD} {x y : Hop} :
    recvC a x.1 x.2.1 x.2.2.1 x.2.2.2 = recvC b y.1 y.2.1 y.2.2.1 y.2.2.2 ↔ a = b ∧ x = y := by
  constructor
  · intro h
    have h' := kcell_injective (a₁ := (a, some (keyOfHop (true, x)))) (a₂ := (b, some (keyOfHop (true, y)))) h
    refine ⟨congrArg Prod.fst h', ?_⟩
    have h2 := keyOfHop.injective (Option.some.inj (congrArg Prod.snd h'))
    exact congrArg Prod.snd h2
  · rintro ⟨rfl, rfl⟩; rfl

theorem tally_recv (a c : Dev nD) (x : Hop) (st : ℕ × Chain) :
    tally a st (recvC c x.1 x.2.1 x.2.2.1 x.2.2.2) () = if starts x st = true then (if a = bwd x.2.1 c then NB else 0) else 0 := by
  obtain ⟨ph, d, u⟩ := st
  obtain ⟨k', d', j', u'⟩ := x
  unfold tally
  cases hk : hop ph with
  | none =>
    rw [if_neg]
    · rfl
    · intro h
      have h := (of_decide_eq_true h).1
      rw [hk] at h; cases h
  | some kj =>
    obtain ⟨k, j⟩ := kj
    dsimp only
    rw [tallyAt_apply]
    have h := recv_eq_iff (a := c) (b := fwd d a) (x := (k', d', j', u')) (y := (k, d, j, u))
    by_cases hx : ((k', d', j', u') : Hop) = (k, d, j, u)
    · cases hx
      have hs : starts (k', d, j', u) (ph, d, u) = true := decide_eq_true ⟨hk, rfl⟩
      by_cases hc : a = bwd d c
      · rw [if_pos ⟨h.mpr ⟨by rw [hc, fwd_bwd], rfl⟩, rfl⟩, if_pos hs, if_pos hc]
      · rw [if_neg fun hh => hc (by rw [(h.mp hh.1).1, bwd_fwd]), if_pos hs, if_neg hc]
    · rw [if_neg fun hh => hx (h.mp hh.1).2, if_neg]
      intro hs
      have hs := of_decide_eq_true hs
      have h1 : (k, j) = (k', j') := Option.some.inj (hk.symm.trans hs.1)
      have h2 : (d, u) = (d', u') := hs.2
      cases h1; cases h2; exact hx rfl

theorem sum_apply (g : GSem nD τ sig) (l : List (CellTallies nD τ sig Unit)) : l.sum g () = (l.map fun t => t g ()).sum := by
  induction l with
  | nil => rfl
  | cons t l ih => rw [List.sum_cons, List.map_cons, List.sum_cons, Pi.add_apply, Finsupp.add_apply, ih]
theorem sum_filter (p : ℕ × Chain → Bool) (n : ℕ) (l : List (ℕ × Chain)) :
    (l.map fun st => if p st = true then n else 0).sum = (l.filter p).length * n := by
  induction l with
  | nil => simp
  | cons t l ih =>
    rw [List.map_cons, List.sum_cons, ih, List.filter_cons]
    by_cases h : p t = true
    · rw [if_pos h, if_pos h, List.length_cons, Nat.add_mul, Nat.one_mul, Nat.add_comm]
    · rw [if_neg h, if_neg h, Nat.zero_add]

theorem dues_recv (a c : Dev nD) (x : Hop) : dues a 0 (recvC c x.1 x.2.1 x.2.2.1 x.2.2.2) () = if a = bwd x.2.1 c then NB else 0 := by
  unfold dues
  rw [List.drop_zero, sum_apply, List.map_map,
    show ((fun t : CellTallies nD τ sig Unit => t (recvC c x.1 x.2.1 x.2.2.1 x.2.2.2) ()) ∘ tally a)
      = fun st => if starts x st = true then (if a = bwd x.2.1 c then NB else 0) else 0 from funext fun st => tally_recv a c x st,
    sum_filter, starts_once, Nat.one_mul]
theorem dues_bar (a c : Dev nD) : dues a 0 (barCell c) () = 0 := by
  by_contra h
  obtain ⟨st, -, kj, -, h⟩ := sum_pos a (g := barCell c) (i := ()) _ (Nat.pos_of_ne_zero h)
  exact absurd (congrArg Prod.snd h) (by intro h'; cases h')

theorem bar_eq_iff {a b : Dev nD} : barCell a = barCell b ↔ a = b :=
  ⟨fun h => congrArg (fun g : GSem nD τ sig => g.1.1) h, fun h => h ▸ rfl⟩

theorem tally_bar (a c : Dev nD) (d : Bool) : tallyAt (barCell (bwd d a)) () 1 (barCell c) () = if a = fwd d c then 1 else 0 := by
  rw [tallyAt_apply]
  by_cases h : a = fwd d c
  · rw [if_pos h, if_pos ⟨by rw [h, bwd_fwd], rfl⟩]
  · rw [if_neg h, if_neg fun hh => h (by rw [bar_eq_iff.mp hh.1, fwd_bwd])]

theorem owed_bar (a c : Dev nD) : O₀ a (barCell c) () = (if a = fwd true c then 1 else 0) + (if a = fwd false c then 1 else 0) := by
  unfold O₀ O₁
  rw [Pi.add_apply, Finsupp.add_apply, Pi.add_apply, Finsupp.add_apply, dues_bar, tally_bar, tally_bar, Nat.zero_add]
theorem owed_recv (a c : Dev nD) (x : Hop) : O₀ a (recvC c x.1 x.2.1 x.2.2.1 x.2.2.2) () = if a = bwd x.2.1 c then NB else 0 := by
  have hne (n : Dev nD) : recvC c x.1 x.2.1 x.2.2.1 x.2.2.2 ≠ barCell n := fun h => by
    have := congrArg Prod.snd h; cases this
  unfold O₀ O₁
  rw [Pi.add_apply, Finsupp.add_apply, Pi.add_apply, Finsupp.add_apply, dues_recv, tallyAt_ne_cell (hne _), tallyAt_ne_cell (hne _),
    Finsupp.zero_apply, Nat.add_zero, Nat.add_zero]

/-! ## The credit the launch gives a device -/

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun a _ => owed_bar a c, Finset.sum_add_distrib,
    Finset.sum_ite_eq' Finset.univ (fwd true c) fun _ => 1, Finset.sum_ite_eq' Finset.univ (fwd false c) fun _ => 1,
    if_pos (Finset.mem_univ _), if_pos (Finset.mem_univ _)]
theorem launch_recv (c : Dev nD) (x : Hop) :
    tallyOn (recvC c x.1 x.2.1 x.2.2.1 x.2.2.2) (launchCredit (Pipeline.owing O₀) 0 (recvC c x.1 x.2.1 x.2.2.1 x.2.2.2))
      = (tallyAt (recvC c x.1 x.2.1 x.2.2.1 x.2.2.2) () NB : CellTallies nD τ sig Unit) := by
  unfold tallyAt; refine congrArg _ (Finsupp.ext fun u => ?_); cases u
  rw [Pipeline.launchCredit_owing, Finsupp.single_eq_same, Finset.sum_congr rfl fun a _ => owed_recv a c x,
    Finset.sum_ite_eq' Finset.univ (bwd x.2.1 c) fun _ => NB, if_pos (Finset.mem_univ _)]

/-- The barrier's two units and each receive cell's credit. -/
theorem creds (c : Dev nD) : (Pipeline.launchCred O₀ c : sProp 𝕄)
    ⊢ iprop(cred (tallyAt (barCell c) () 2) ∗ bigSep Finset.univ fun x : Hop => cred (tallyAt (recvC c x.1 x.2.1 x.2.2.1 x.2.2.2) () NB)) := by
  have h : (bigSep Finset.univ fun k : Option Key => (cred (tallyOn (kcell (c, k)) (launchCredit (Pipeline.owing O₀) 0 (kcell (c, k)))) : sProp 𝕄))
      ⊢ iprop(cred (tallyAt (barCell c) () 2) ∗ bigSep Finset.univ fun x : Hop => cred (tallyAt (recvC c x.1 x.2.1 x.2.2.1 x.2.2.2) () NB)) := by
    rw [bigSep_option, keys_by_hop, ← launch_bar,
      BI.bigSep_congr (s := Finset.univ) fun (x : Hop) _ => congrArg (fun t => (cred t : sProp 𝕄)) (launch_recv c x).symm]
    iintro ⟨Hb, Hr, -⟩
    isplitl [Hb]; · iexact Hb
    iexact Hr
  refine BIBase.Entails.trans ?_ h
  unfold Pipeline.launchCred
  refine (BI.bigSep_subset (Finset.subset_univ (Finset.univ.map ⟨osem, osem_injective⟩))).trans ?_
  rw [BI.bigSep_map]
  exact Entails.refl _

end Cert.AllReduce
end
-- ==== Proof.Launch.lean ====
/-
The kernel's proof data, its launch on the four devices, and the run.
-/
module

public import proofs.«01_k».proof.Proof.Walk
public import proofs.«01_k».proof.Proof.Credit
public import Idealize.ShloMosaic.Lib.Quiescent
public import Idealize.ShloMosaic.Lib.Pipeline.Quiescent

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

variable (ρ : Dev nD → PrngReg)

/-! ## The kernel's proof data -/

/-- What a device's kernel starts from, beside what it owes. -/
def Begin (c : Dev nD) : sProp 𝕄 :=
  iprop(records m ∗ levAts L lv
    ∗ (dutyTok ER (barCell (bwd true c)) 0 true ∗ dutyTok ER (barCell (bwd false c)) 0 false)
    ∗ atPos ER (barCell c) 0 ∅ 0 ∗ cred (tallyAt (barCell c) () 2)
    ∗ (landing (F := F) true c ∗ landing (F := F) false c)
    ∗ bigSep Finset.univ (hopRes (F := F) c) ∗ (bigSep Finset.univ fun x : Chain => held m c x.1 x.2 0)
    ∗ bigSep Finset.univ (side m c 0 0))

def dats (_ : Fin 1) (c : Dev nD) : Dat τ (Elt F) Unit ℕ UU ℕ cfg0 c where
  A w := w.elim0
  after w := w.elim0
  Φ t := match t with
    | ⟨0, _⟩ => Begin m c
    | ⟨_ + 1, _⟩ => Final m c
  q _ := fullShare
  owed t := match t with
    | ⟨0, _⟩ => O₀ c
    | ⟨_ + 1, _⟩ => 0

/-- What is left after the last step, in the shape the launch takes back. -/
theorem body_exit (c : Dev nD) : St m c 4 128 ⊢ iprop(semVal (barCell c) 0 -∗ (Final m c ∗ (dats m 0 c).owesAt () t0_0.succ)) := by
  unfold St Final Dat.owesAt Pipeline.owesWithin
  iintro ⟨-, -, ⟨%W, HO⟩, Hs, Hc⟩ Hb
  isplitr [HO]
  · isplitl [Hs]; · iexact Hs
    isplitl [Hc]; · iexact Hc
    iexact Hb
  iexists W
  isplitr; · ipureintro; exact fun _ _ => Or.inl trivial
  iapply (show owes (c : Thread nD τ) (dues c 128) W ⊢ (owes (c : Thread nD τ) ((dats m 0 c).owed t0_0.succ) W : sProp 𝕄) from
    Entails.of_eq (by rw [dues_end 128 (by decide +kernel) c]; rfl))
  iexact HO

theorem bigSep_W (Φ : Fin cfg0.W → sProp 𝕄) : bigSep Finset.univ Φ = iprop(emp) := by
  rw [show (Finset.univ : Finset (Fin cfg0.W)) = ∅ from rfl, BI.bigSep_empty]; rfl

theorem body_obligation (c : Dev nD) : BodyObligation (dats m 0 c) (defs₀ (F := F)) 𝒱₀ () Set.univ := fun t => by
  rw [fin_N0 t, bigSep_W, bigSep_W]
  show iprop(Begin m c ∗ (dats m 0 c).owesAt () t0_0.castSucc ∗ emp) ⊢ WP c
    (cc0_body argM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15)
     (fun _ => iprop(Final m c ∗ (dats m 0 c).owesAt () t0_0.succ ∗ emp))
  refine BIBase.Entails.trans ?_ (walk m c (Q := fun _ => iprop(Final m c ∗ (dats m 0 c).owesAt () t0_0.succ ∗ emp)) ?_)
  · unfold Begin Entry Dat.owesAt Pipeline.owesWithin
    iintro ⟨⟨HR, HL, Ht, Hat, Hcr, Hl, Hh, Hc, Hs⟩, ⟨%W, %hW, HO⟩, -⟩
    isplitl [HR]; · iexact HR
    isplitl [HL]; · iexact HL
    isplitl [HO]; · iexists W; iexact HO
    isplitl [Ht]; · iexact Ht
    isplitl [Hat]; · iexact Hat
    isplitl [Hcr]; · iexact Hcr
    isplitl [Hl]; · iexact Hl
    isplitl [Hh]; · iexact Hh
    isplitl [Hc]; · iexact Hc
    iexact Hs
  · iintro HSt Hb
    ihave H := (body_exit m c) $$ HSt
    ispecialize H $$ Hb
    icases H with ⟨HF, HO⟩
    isplitl [HF]; · iexact HF
    isplitl [HO]; · iexact HO
    iempintro

/-! ## The start -/

/-- A device's buffers and ghost state, before its scoped buffers are given. -/
def start (c : Dev nD) : sProp 𝕄 :=
  iprop(G' m c ∗ levAts L lv ∗ (cred (tallyAt (barCell c) () 2) ∗ bigSep Finset.univ fun x : Hop => cred (tallyAt (recvC c x.1 x.2.1 x.2.2.1 x.2.2.2) () NB))
    ∗ argPts m c fullShare ∗ (outL c ↦{fullShare} m (outL c)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start
  iintro ⟨⟨Ha, Ho⟩, Hlev, Hcr, -, HG⟩
  ihave Hc := (creds (F := F) c) $$ Hcr
  imodintro
  isplitl
  · isplitl [HG]; · iexact HG
    isplitl [Hlev]; · iexact Hlev
    isplitl [Hc]; · iexact Hc
    isplitl [Ha]
    · iapply (show (((c : Thread nD τ).loc main_arg0) ↦{fullShare} m ((c : Thread nD τ).loc main_arg0) : sProp 𝕄) ⊢ argPts m c fullShare from Entails.refl _)
      iexact Ha
    iexact Ho
  iempintro

/-- The pieces of both phases are those neighbours write and those the chains start from. -/
theorem pieces_start (c : Dev nD) :
    iprop((bigSep Finset.univ fun x : Bool × Fin 4 × Fin 4 => pcAny (F := F) true x.1 c x.2.1 x.2.2)
      ∗ bigSep Finset.univ fun x : Bool × Fin 4 × Fin 4 => pcAny (F := F) false x.1 c x.2.1 x.2.2)
    ⊢ iprop((landing (F := F) true c ∗ landing (F := F) false c) ∗ bigSep Finset.univ fun x : Chain => held m c x.1 x.2 0) := by
  have hl : iprop(landing (F := F) true c ∗ landing (F := F) false c)
      = iprop((bigSep Finset.univ fun x : Chain => bigSep Finset.univ fun j : Fin 3 => pcAny (F := F) true x.1 c j.succ x.2)
        ∗ bigSep Finset.univ fun x : Chain => bigSep Finset.univ fun j : Fin 3 => pcAny (F := F) false x.1 c j.succ x.2) := by
    have e : iprop(landing (F := F) true c ∗ landing (F := F) false c) = bigSep Finset.univ fun d => landing (F := F) d c := (bigSep_bool (Φ := fun d => landing (F := F) d c)).symm
    rw [e]
    unfold landing
    rw [← BI.bigSep_univ_prod (fun z : Bool × Bool × Fin 4 × Fin 3 => pcAny (F := F) z.2.1 z.1 c z.2.2.2.succ z.2.2.1),
      BI.bigSep_univ_equiv hopOfDir, BI.bigSep_univ_prod]
    exact (BI.bigSep_congr fun (x : Chain) _ =>
      (BI.bigSep_univ_prod fun y : Bool × Fin 3 => pcAny (F := F) y.1 x.1 c y.2.succ x.2).trans bigSep_bool).trans (BI.bigSep_sep' _ _ _)
  have h4 (Φ : Fin 4 → sProp 𝕄) : bigSep Finset.univ Φ = iprop((bigSep Finset.univ fun j : Fin 3 => Φ j.succ) ∗ Φ 0) := by
    rw [bigSep_fin4, bigSep_fin3]
    exact BI.equiv_iff.mp ⟨BI.sep_comm, BI.sep_comm⟩
  rw [hl, pieces_by_chain, pieces_by_chain]
  simp only [h4]
  rw [BI.bigSep_sep', BI.bigSep_sep']
  iintro ⟨⟨Hts, Ht⟩, ⟨Hfs, Hf⟩⟩
  isplitl [Hts Hfs]
  · isplitl [Hts]; · iexact Hts
    iexact Hfs
  iapply (show iprop((bigSep Finset.univ fun x : Chain => pcAny (F := F) false x.1 c 0 x.2) ∗ bigSep Finset.univ fun x : Chain => pcAny (F := F) true x.1 c 0 x.2)
    ⊢ bigSep Finset.univ fun x : Chain => held m c x.1 x.2 0 from Entails.of_eq (BI.bigSep_sep' _ _ _).symm)
  isplitl [Hf]; · iexact Hf
  iexact Ht

/-- A device's tokens, positions and credit, hop by hop. -/
theorem hops_start (c : Dev nD) :
    iprop((bigSep Finset.univ fun x : Key => atPos ER (kcell (c, some x)) 0 ∅ 0)
      ∗ ((bigSep Finset.univ fun x : Hop => dutyTok ER (sendC c x.1 x.2.1 x.2.2.1 x.2.2.2) 0 false)
        ∗ bigSep Finset.univ fun x : Hop => dutyTok ER (recvC (fwd x.2.1 c) x.1 x.2.1 x.2.2.1 x.2.2.2) 0 false)
      ∗ bigSep Finset.univ fun x : Hop => cred (tallyAt (recvC c x.1 x.2.1 x.2.2.1 x.2.2.2) () NB))
    ⊢ bigSep Finset.univ (hopRes (F := F) c) := by
  have h : bigSep Finset.univ (hopRes (F := F) c)
      = iprop(((bigSep Finset.univ fun x : Hop => dutyTok ER (sendC c x.1 x.2.1 x.2.2.1 x.2.2.2) 0 false)
        ∗ (bigSep Finset.univ fun x : Hop => dutyTok ER (recvC (fwd x.2.1 c) x.1 x.2.1 x.2.2.1 x.2.2.2) 0 false)
        ∗ bigSep Finset.univ fun x : Hop => atPos ER (sendC c x.1 x.2.1 x.2.2.1 x.2.2.2) 0 ∅ 0)
        ∗ (bigSep Finset.univ fun x : Hop => atPos ER (recvC c x.1 x.2.1 x.2.2.1 x.2.2.2) 0 ∅ 0)
        ∗ bigSep Finset.univ fun x : Hop => cred (tallyAt (recvC c x.1 x.2.1 x.2.2.1 x.2.2.2) () NB)) := by
    unfold hopRes needR
    rw [BI.bigSep_sep', BI.bigSep_sep', BI.bigSep_sep', BI.bigSep_sep']
  rw [h, keys_by_hop]
  iintro ⟨⟨Har, Has⟩, ⟨Hts, Htr⟩, Hcr⟩
  isplitl [Has Hts Htr]
  · isplitl [Hts]; · iexact Hts
    isplitl [Htr]; · iexact Htr
    iexact Has
  isplitl [Har]; · iexact Har
  iexact Hcr

theorem busy_start : ∀ d, busy d 0 = false := by decide +kernel

theorem side_start (c : Dev nD) (d : Bool) :
    iprop(argPts m c (half d) ∗ semVal ((c : Thread nD τ), .dma (stS d)) 0 ∗ semVal ((c : Thread nD τ), .dma (outS d)) 0
      ∗ ∃ f : Buf (Elt F) ((xstM d).view.loc (c : Thread nD τ)), (xstM d).view.loc (c : Thread nD τ) ↦[(xstM d).view.set]{fullShare} f)
    ⊢ side m c 0 0 d := by
  unfold side outFree staged
  rw [busy_start, if_neg Bool.false_ne_true]
  iintro ⟨Ha, Hs, Ho, ⟨%f, Hx⟩⟩
  isplitl [Ha]; · iexact Ha
  isplitl [Hs]; · iexact Hs
  isplitl [Ho]; · iexact Ho
  iexists (xstM d).view.read (Elt F) f
  unfold owns
  iexists f
  isplitr; · ipureintro; rfl
  iexact Hx

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Begin m c from rfl, scopedRest0_eq]
  unfold Begin start G' posns payToks locals
  rw [bigSep_option, bigSep_bool, bigSep_bool, bigSep_bool]
  iintro ⟨⟨⟨HR, ⟨Hab, Hak⟩, ⟨Htb, Hth⟩, ⟨⟨Hst, Hsf⟩, Hot, Hof⟩⟩, HL, ⟨Hcb, Hch⟩, Harg, Hout⟩, -, ⟨⟨%f0, H0⟩, ⟨%f1, H1⟩, ⟨%f2, H2⟩, ⟨%f3, H3⟩⟩⟩
  ihave Harg := (show argPts m c fullShare ⊢ iprop(argPts m c fullShare.left ∗ argPts m c fullShare.right) from
      (pointsTo_share (PosShare.mem_left_op_right fullShare)).1) $$ Harg
  icases Harg with ⟨Haf, Hat⟩
  ihave Hp := (pieces_start m c) $$ [Hout H0 H1]
  · isplitl [Hout]; · iapply (out_split c _); iexact Hout
    iapply (show iprop((commL true c ↦{fullShare} f1) ∗ (commL false c ↦{fullShare} f0))
      ⊢ bigSep Finset.univ fun x : Bool × Fin 4 × Fin 4 => pcAny (F := F) false x.1 c x.2.1 x.2.2 from by
        rw [BI.bigSep_univ_prod, bigSep_bool]; exact BI.sep_mono (comm_split true c f1) (comm_split false c f0))
    isplitl [H1]; · iexact H1
    iexact H0
  icases Hp with ⟨Hl, Hh⟩
  isplitl [HR]; · iexact HR
  isplitl [HL]; · iexact HL
  isplitl [Htb]; · iexact Htb
  isplitl [Hab]; · iexact Hab
  isplitl [Hcb]; · iexact Hcb
  isplitl [Hl]; · iexact Hl
  isplitl [Hak Hth Hch]
  · iapply (hops_start (F := F) c)
    isplitl [Hak]; · iexact Hak
    isplitl [Hth]; · iexact Hth
    iexact Hch
  isplitl [Hh]; · iexact Hh
  isplitl [Hat Hst Hot H3]
  · iapply (side_start m c true)
    isplitl [Hat]; · iexact Hat
    isplitl [Hst]; · iexact Hst
    isplitl [Hot]; · iexact Hot
    iexists f3
    iapply (show (((c : Thread nD τ).loc cc0_scratch3) ↦{fullShare} f3 : sProp 𝕄) ⊢ ((xstM true).view.loc (c : Thread nD τ) ↦[(xstM true).view.set]{fullShare} f3 : sProp 𝕄)
      from Entails.of_eq (by rw [show (xstM true).view.set = Finset.univ from View.set_whole _]; rfl))
    iexact H3
  · iapply (side_start m c false)
    isplitl [Haf]; · iexact Haf
    isplitl [Hsf]; · iexact Hsf
    isplitl [Hof]; · iexact Hof
    iexists f2
    iapply (show (((c : Thread nD τ).loc cc0_scratch2) ↦{fullShare} f2 : sProp 𝕄) ⊢ ((xstM false).view.loc (c : Thread nD τ) ↦[(xstM false).view.set]{fullShare} f2 : sProp 𝕄)
      from Entails.of_eq (by rw [show (xstM false).view.set = Finset.univ from View.set_whole _]; rfl))
    iexact H2

/-! ## The end -/

/-- What a device keeps to the end: its barrier at zero, its input, its result. -/
def kept (c : Dev nD) : sProp 𝕄 :=
  iprop(unscopedSems0 c ∗ argPts m c fullShare ∗ ∃ g, ⌜resIs m c g⌝ ∗ outL c ↦{fullShare} g)

theorem phi1_exit (c : Dev nD) :
    (dats m 0 c).Φ (Fin.last cfg0.N) ⊢ iprop(kept m c ∗ Pipeline.ownSems0 osemD c ∗ Pipeline.scopedRest cfg0.spec c) := by
  rw [show (dats m 0 c).Φ (Fin.last cfg0.N) = Final m c from rfl, scopedRest0_eq]
  unfold kept
  rw [unscopedSems0_eq]
  refine (final_end m c).trans ?_
  iintro ⟨Hb, Ha, Ho, Hs, Hr⟩
  isplitl [Hb Ha Ho]
  · isplitl [Hb]; · iexact Hb
    isplitl [Ha]; · iexact Ha
    iexact Ho
  isplitl [Hs]
  · iapply (show (bigSep Finset.univ fun q : DmaSem sig => semVal ((c : Thread nD τ), .dma q) 0 : sProp 𝕄) ⊢ own0 (F := F) c from Entails.refl _)
    iexact Hs
  iexact Hr

/-- What a device's memory holds at the end. -/
def memIs (c : Dev nD) (s : MemSt nD τ sig (Elt F)) : Prop :=
  s.mem ((c : Thread nD τ).loc main_arg0) = m ((c : Thread nD τ).loc main_arg0) ∧ resIs m c (s.mem (outL c))

theorem kept_read (c : Dev nD) (s' : Phys nD τ sig (Elt F)) : iprop(kept m c ∗ emp ∗ SI s')
    ⊢ |={Set.univ}=> iprop(⌜memIs m c s'.mem ∧ ∀ sm : SemLoc sig, sm.isScoped .tc = false → s'.mem.sem ((c.tc : Thread nD τ), sm) = 0⌝ ∗ SI s') := by
  unfold kept argPts
  iintro ⟨⟨Hu, Ha, ⟨%g, %hg, Ho⟩⟩, -, HSI⟩
  icombine HSI Ha gives %ha
  icombine HSI Ho gives %ho
  ihave %hu := (tcUnscoped_read c s') $$ [Hu HSI]
  · isplitl [Hu]; · iexact Hu
    iexact HSI
  imodintro
  isplitr
  · ipureintro
    refine ⟨⟨Buf.eq_of_forall_mem_univ ha, ?_⟩, hu⟩
    rw [show s'.mem.mem (outL c) = g from Buf.eq_of_forall_mem_univ ho]; exact hg
  iexact HSI

theorem waits (c : Dev nD) : (levAts L lv : sProp 𝕄) ⊢ Pipeline.cellsWaits cfgs (dats m) () 0 c :=
  Pipeline.cellsWaits_intro cfgs (dats m) () 0 c fun w => w.elim0

/-! ## The run -/

/-- From any memory, with every counter zero, every fair execution of the four devices' programs ends, with each
    device's input as it was, its result as computed, and every counter zero. -/
theorem run_main : θ_run defs (onTc (τ := τ) (main (F := F))) ⟨m, fun _ => 0, ρ⟩ (fun r => (∀ c, memIs m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (show BI.own (embR.toFun (initOf ringCells ringToks, 1)) ⊢ (BI.own (ER (initOf ringCells ringToks)) : sProp 𝕄) from Entails.refl _) $$ HX
      imod (fund_ring m) $$ HX with HG
      imodintro
      isplitl [HP]; · iexact HP
      iexact HG)
    (hglob := glob m)
    (hA := fun _ w => w.elim0) (hpf := fun _ k => k.elim0)
    (X := start m) (Y := kept m) (Z := fun _ => iprop(emp))
    (hX := start_intro m ρ) (hin := phi0_intro m) (hout := phi1_exit m)
    (QY := fun c s => memIs m c s ∧ ∀ sm : SemLoc sig, sm.isScoped .tc = false → s.sem ((c.tc : Thread nD τ), sm) = 0)
    (hY := kept_read m)
    (hQ := fun _ h hs => ⟨fun c => (h c).2.2.1, sem_eq_zero hs fun c => (h c).2.2.2⟩)

end Cert.AllReduce
end
-- ==== Proof.Value.lean ====
/-
The values the kernel computes, over the extended reals.
-/
module

public import proofs.«01_k».proof.Proof.Exit
public import proofs.«01_k».proof.Proof.Ops
public import Idealize.ShloMosaic.Lib.ViewIndex
public import Idealize.ShloMosaic.PureOps.Ideal
public import Idealize.ShloMosaic.PureOps.Ideal.Laws
public import Idealize.ShloMosaic.Lib.Pointwise.Reduce
public import Mathlib.Tactic.Abel
public import Idealize.ShloMosaic.Lib.Pipeline.Value
public import Idealize.ShloMosaic.Lib.Pipeline.ValueKit.Geometry

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Where a band lies -/

section Place
variable (d : Bool) (u : Fin 4) (i : S512x1024.Idx)

/-- The place in the input of element `i` of band `u` of what device `c` stages at step `s`. -/
def place (c : Dev nD) (s : ℕ) : S8192x2048.Idx :=
  (Rect.unit (s := S8192x2048) (xOff d c s) S2048x1024.size (xInb d c s)).emb ((bandR u).emb i)

theorem place_val (c : Dev nD) (s : ℕ) : (place d u i c s 0).val = 2048 * xChunk d c s + (512 * u.val + (i 0).val)
    ∧ (place d u i c s 1).val = cond d 1024 0 + (i 1).val := by
  unfold place bandR
  constructor
  · rw [ValueKit.rect_emb_unit_val, ValueKit.rect_emb_unit_val]; rfl
  · rw [ValueKit.rect_emb_unit_val, ValueKit.rect_emb_unit_val]
    show cond d 1024 0 + (0 + (i 1).val) = _
    rw [Nat.zero_add]

theorem xChunk_bwd (c : Dev nD) (s : ℕ) : xChunk d (bwd d c) s = xChunk d c (s + 1) := by
  unfold xChunk bwd; cases d <;> simp only [cond_true, cond_false] <;> omega

theorem place_bwd (c : Dev nD) (s : ℕ) : place d u i (bwd d c) s = place d u i c (s + 1) := by
  have h := place_val d u i (bwd d c) s
  have h' := place_val d u i c (s + 1)
  rw [xChunk_bwd] at h
  funext a
  fin_cases a
  · exact Fin.ext (h.1.trans h'.1.symm)
  · exact Fin.ext (h.2.trans h'.2.symm)

theorem och_bwd (c : Dev nD) (j : ℕ) : och d (bwd d c) j = och d c (j + 1) := by
  unfold och bwd; cases d <;> simp only [cond_true, cond_false] <;> omega

/-- The band of the result that device `c` computes is at the place of the last it stages; -/
theorem och_zero (c : Dev nD) : och d c 0 = xChunk d c 3 := by
  unfold och xChunk; cases d <;> simp only [cond_true, cond_false] <;> omega

theorem agR_val (c : Dev nD) (j : ℕ) : ((agR d c j u).emb i 0).val = 2048 * och d c j + 512 * u.val + (i 0).val
    ∧ ((agR d c j u).emb i 1).val = cond d 1024 0 + (i 1).val := by
  unfold agR
  constructor <;> rw [ValueKit.rect_emb_unit_val] <;> rfl

theorem agR_bwd (c : Dev nD) (j : ℕ) : (agR d (bwd d c) j u).emb i = (agR d c (j + 1) u).emb i := by
  have h := agR_val d u i (bwd d c) j
  have h' := agR_val d u i c (j + 1)
  rw [och_bwd] at h
  funext a
  fin_cases a
  · exact Fin.ext (h.1.trans h'.1.symm)
  · exact Fin.ext (h.2.trans h'.2.symm)

theorem agR_zero (c : Dev nD) : (agR d c 0 u).emb i = place d u i c 3 := by
  have h := agR_val d u i c 0
  have h' := place_val d u i c 3
  rw [och_zero, Nat.add_assoc] at h
  funext a
  fin_cases a
  · exact Fin.ext (h.1.trans h'.1.symm)
  · exact Fin.ext (h.2.trans h'.2.symm)

end Place

/-! ## The values, exactly -/

section Ideal
variable (m : (ℓ : Loc nD τ sig) → Buf (Elt Ideal) ℓ)

/-- The function the kernel computes of the sum. -/
def fn (s : EReal) : EReal := Ideal.tanh s * s * s + max s 0 * max s 0 * max s 0

/-- The sum of the devices' inputs. -/
def total (p : S8192x2048.Idx) : EReal := ∑ a : Dev nD, xArg m a p

theorem xBand_apply (d : Bool) (c : Dev nD) (s : ℕ) (u : Fin 4) (i : S512x1024.Idx) : xBand m d c s u i = xArg m c (place d u i c s) := rfl

theorem rsVal_zero (d : Bool) (u : Fin 4) (c : Dev nD) (i : S512x1024.Idx) : rsVal m d u 0 c i = xArg m c (place d u i c 0) := rfl

theorem rsVal_succ (d : Bool) (u : Fin 4) (j : ℕ) (c : Dev nD) (i : S512x1024.Idx) :
    rsVal m d u (j + 1) c i = rsVal m d u j (bwd d c) i + xArg m c (place d u i c (j + 1)) := by
  have h : rsVal m d u (j + 1) c i = dn (up (rsVal m d u j (bwd d c))) i + xBand m d c (j + 1) u i := rfl
  rw [h, dn_up, xBand_apply]

theorem around (d : Bool) (f : Dev nD → EReal) (c : Dev nD) : f (bwd d (bwd d (bwd d c))) + f (bwd d (bwd d c)) + f (bwd d c) + f c = ∑ a, f a := by
  rw [show ∑ a, f a = f 0 + f 1 + f 2 + f 3 from Fin.sum_univ_four f]
  have h : ∀ d c, (bwd d (bwd d (bwd d c)), bwd d (bwd d c), bwd d c) = match d, c with
    | true, 0 => (3, 2, 1) | true, 1 => (0, 3, 2) | true, 2 => (1, 0, 3) | true, 3 => (2, 1, 0)
    | false, 0 => (1, 2, 3) | false, 1 => (2, 3, 0) | false, 2 => (3, 0, 1) | false, 3 => (0, 1, 2) := by decide +kernel
  have h := h d c
  have h1 := congrArg Prod.fst h
  have h2 := congrArg (fun x => x.2.1) h
  have h3 := congrArg (fun x => x.2.2) h
  dsimp only at h1 h2 h3
  rw [h1, h2, h3]
  cases d <;> fin_cases c <;> dsimp <;> abel

/-- After the reduction a band holds the sum over the devices. -/
theorem rsVal_total (d : Bool) (u : Fin 4) (c : Dev nD) (i : S512x1024.Idx) : rsVal m d u 3 c i = total m (place d u i c 3) := by
  rw [rsVal_succ, rsVal_succ, rsVal_succ, rsVal_zero, place_bwd, place_bwd, place_bwd]
  exact around d (fun a => xArg m a (place d u i c 3)) c

theorem finV_apply (v : S512x1024.Idx → Elt Ideal .bf16) (i : S512x1024.Idx) : finV (up v) i = fn (v i) := by
  have hz : (Scalar.ofBits .f32 0x00000000#32 : Ideal .f32) = (0 : EReal) := by simp [Scalar.ofBits]
  have h : finV (F := Ideal) (up v) i = Ideal.tanh (dn (up v) i) * dn (up v) i * dn (up v) i
      + max (dn (up v) i) (Scalar.ofBits .f32 0x00000000#32 : Ideal .f32) * max (dn (up v) i) (Scalar.ofBits .f32 0x00000000#32 : Ideal .f32)
        * max (dn (up v) i) (Scalar.ofBits .f32 0x00000000#32 : Ideal .f32) := rfl
  rw [h, dn_up, hz]; rfl

theorem agVal_apply (d : Bool) (u : Fin 4) (i : S512x1024.Idx) : ∀ (j : ℕ) (c : Dev nD), agVal m d u j c i = fn (total m ((agR d c j u).emb i))
  | 0, c => by rw [agR_zero, ← rsVal_total]; exact finV_apply _ i
  | j + 1, c => by rw [← agR_bwd]; exact agVal_apply d u i j (bwd d c)

/-- Every device's result is the function of the sum, everywhere. -/
theorem res_eq (c : Dev nD) (g : Buf (Elt Ideal) (outL c)) (hg : resIs m c g) : g = fun p => fn (total m p) := by
  funext p
  have hp := (ag_mem c (agW c p) p).mpr rfl
  obtain ⟨i, hi⟩ := View.exists_of_mem_set_slice hp
  have h : g ((agR (agW c p).1 c (agW c p).2.1.val (agW c p).2.2).emb i) = agVal m (agW c p).1 (agW c p).2.2 (agW c p).2.1.val c i := congrFun (hg (agW c p)) i
  have e : (agR (agW c p).1 c (agW c p).2.1.val (agW c p).2.2).emb i = p := hi
  exact ((congrArg g e).symm.trans (h.trans (agVal_apply m _ _ i _ c))).trans (congrArg (fun q => fn (total m q)) e)

end Ideal

end Cert.AllReduce
end
-- ==== Proof.Reference.lean ====
/-
The reference's result, over the extended reals, in terms of its argument's blocks.
-/
module

public import proofs.«01_k».proof.Proof.Gen.ReferenceIdeal.Run
public import proofs.«01_k».proof.Proof.Value
public import Idealize.ShloMosaic.Lib.Layout
public import Idealize.ShloMosaic.Lib.Pipeline.Value

@[expose] public section

noncomputable section

namespace Cert.AllReduce

open Cert.ReferenceIdeal Cert.ReferenceIdeal.Gen
open Idealize.ShloMosaic Idealize.ShloMosaic.TcCoe

theorem tiles : Layout.Tiles ⟨2, ![8192, 2048]⟩ ⟨2, ![32768, 2048]⟩ 0 4 := by decide

/-- The sum of the argument's four blocks. -/
def refSum (x : FVec Ideal S32768x2048 .f32) : FVec Ideal S8192x2048 .f32 :=
  Host.reduceAdd (shapeCast _ x shapeCasts_S32768x2048_S4x8192x2048) (constant S_ .f32 0x00000000#32) reducesTo_S4x8192x2048_S8192x2048_d0 h_S_

theorem reshaped (x : FVec Ideal S32768x2048 .f32) (k : Fin 4) (p : S8192x2048.Idx) :
    shapeCast S4x8192x2048 x shapeCasts_S32768x2048_S4x8192x2048 (ix3 k (p 0) (p 1)) = x (tiles.idx k p) := by
  refine shapeCast_apply _ _ _ _ ?_
  have h2 := Shape.rowMajor_val_two (d := ![32768, 2048]) (tiles.idx k p)
  have h3 := Shape.rowMajor_val_three (d := ![4, 8192, 2048]) (ix3 k (p 0) (p 1))
  exact (h2.trans (show (k.val * 8192 + (p 0).val) * 2048 + (p 1).val = _ from rfl)).trans h3.symm

theorem zero_bits : (FloatOps.ofBits .f32 0x00000000#32 : Ideal .f32) = (0 : EReal) := by simp [FloatOps.ofBits]

theorem refSum_apply (x : FVec Ideal S32768x2048 .f32) (p : S8192x2048.Idx) : refSum x p = ∑ k : Fin 4, x (tiles.idx k p) := by
  have h : refSum x p = Ideal.hostReduceAdd reducesTo_S4x8192x2048_S8192x2048_d0
      (shapeCast S4x8192x2048 x shapeCasts_S32768x2048_S4x8192x2048) (FloatOps.ofBits .f32 0x00000000#32 : Ideal .f32) p := rfl
  rw [h, Ideal.hostReduceAdd_r3_a0, zero_bits]
  exact (zero_add _).trans (Finset.sum_congr rfl fun k _ => reshaped x k p)

/-- The reference's function of a sum, -/
def ofSum (s : FVec Ideal S8192x2048 .f32) : FVec Ideal S8192x2048 .bf16 :=
  truncf .bf16 (addf (mulf (mulf (Host.tanh s) s) s)
    (mulf (mulf (maximumf s (broadcastInDim S8192x2048 ![] bcast_S_S8192x2048 (constant S_ .f32 0x00000000#32)))
      (maximumf s (broadcastInDim S8192x2048 ![] bcast_S_S8192x2048 (constant S_ .f32 0x00000000#32))))
      (maximumf s (broadcastInDim S8192x2048 ![] bcast_S_S8192x2048 (constant S_ .f32 0x00000000#32))))) bitsLt_bf16_f32
/-- element by element. -/
theorem ofSum_apply (s : FVec Ideal S8192x2048 .f32) (p : S8192x2048.Idx) : ofSum s p = fn (s p) := by
  have h : ofSum s p = Ideal.tanh (s p) * s p * s p
      + max (s p) (FloatOps.ofBits .f32 0x00000000#32 : Ideal .f32) * max (s p) (FloatOps.ofBits .f32 0x00000000#32 : Ideal .f32)
        * max (s p) (FloatOps.ofBits .f32 0x00000000#32 : Ideal .f32) := rfl
  rw [h, zero_bits]; rfl

/-- The reference's result. -/
def refRes (x : FVec Ideal S32768x2048 .f32) : FVec Ideal S8192x2048 .bf16 := ofSum (refSum x)

theorem refRes_eq (x : FVec Ideal S32768x2048 .f32) : refRes x = fun p => fn (∑ k : Fin 4, x (tiles.idx k p)) :=
  funext fun p => (ofSum_apply _ p).trans (congrArg fn (refSum_apply x p))

/-- Where each device has its block of the reference's argument, the devices' sum is the reference's. -/
theorem total_eq (m : (ℓ : Loc Cert.KernelIdeal.nD Cert.KernelIdeal.τ Cert.KernelIdeal.sig) → Buf (Elt Ideal) ℓ) (x : FVec Ideal S32768x2048 .f32)
    (hm : ∀ c : Dev Cert.KernelIdeal.nD, m ((c.tc : Thread Cert.KernelIdeal.nD Cert.KernelIdeal.τ).loc Cert.KernelIdeal.main_arg0)
      = Layout.block ⟨2, ![8192, 2048]⟩ ⟨2, ![32768, 2048]⟩ 0 4 c x) :
    (fun p => fn (total m p)) = refRes x := by
  rw [refRes_eq]
  exact funext fun p => congrArg fn (Finset.sum_congr rfl fun c _ => congrFun (hm c) p)

end Cert.AllReduce
end
-- ==== Proof.lean ====
/-
Every claim about the all-reduce kernel: its frame at both readings, the reference's, and the values.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem Cert.AllReduce

theorem frame_kernel : Cert.quiescent_Kernel := fun m ρ _ =>
  (θ_run Cert.KernelIdeal.defs _ _).mono (fun _ h => ⟨fun c => (h.1 c).1, h.2⟩) (run_main (F := Bits) m ρ)

theorem frame_kernelIdeal : Cert.quiescent_KernelIdeal := fun m ρ _ =>
  (θ_run Cert.KernelIdeal.defs _ _).mono (fun _ h => ⟨fun c => (h.1 c).1, h.2⟩) (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

theorem algebraic : Cert.algebraic_KernelIdeal_ReferenceIdeal := fun m ρ m' ρ' _ hm =>
  ⟨refRes (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(res_eq m c _ (h.1 c).2).trans (total_eq m _ hm), (h.1 c).1⟩) (run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
